-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_maximum_KernelIdeal [hPre_one_maximum_KernelIdeal : Cert.Pre_one_maximum_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_one_maximum_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_maximum_ReferenceIdeal [hPre_one_maximum_ReferenceIdeal : Cert.Pre_one_maximum_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_maximum_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_maximum_KernelIdeal [hKernelIdeal : Cert.KernelIdeal.Facts] [hPre_one_maximum_KernelIdeal : Cert.Pre_one_maximum_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_maximum_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_maximum_ReferenceIdeal [hReferenceIdeal : Cert.ReferenceIdeal.Facts] [hPre_one_maximum_ReferenceIdeal : Cert.Pre_one_maximum_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_maximum_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_maximum_KernelIdeal [hKernelIdeal : Cert.KernelIdeal.Facts] [hReferenceIdeal : Cert.ReferenceIdeal.Facts] [hPre_one_maximum_KernelIdeal : Cert.Pre_one_maximum_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_maximum_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_maximum_KernelIdeal : Cert.Pre_one_maximum_KernelIdeal.Facts) (hPre_one_maximum_ReferenceIdeal : Cert.Pre_one_maximum_ReferenceIdeal.Facts),
    quiescent_Kernel (hKernel := hKernel)
    ∧ quiescent_KernelIdeal (hKernelIdeal := hKernelIdeal)
    ∧ quiescent_KernelIdeal_pre_one_maximum_KernelIdeal (hKernelIdeal := hKernelIdeal) (hPre_one_maximum_KernelIdeal := hPre_one_maximum_KernelIdeal)
    ∧ quiescent_ReferenceIdeal (hReferenceIdeal := hReferenceIdeal)
    ∧ quiescent_ReferenceIdeal_pre_one_maximum_ReferenceIdeal (hReferenceIdeal := hReferenceIdeal) (hPre_one_maximum_ReferenceIdeal := hPre_one_maximum_ReferenceIdeal)
    ∧ preserves_Kernel_KernelIdeal
    ∧ algebraic_KernelIdeal_ReferenceIdeal_pre_one_maximum_KernelIdeal (hKernelIdeal := hKernelIdeal) (hReferenceIdeal := hReferenceIdeal) (hPre_one_maximum_KernelIdeal := hPre_one_maximum_KernelIdeal)
-- ==== Pre_one_maximum_KernelIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

class Facts : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S1024 : S_.BroadcastsInDim S1024 (![] : Fin 0 → Fin S1024.rank)

variable [Facts]

def fn {F : FTy → Type} [FloatOps F] (main_arg0 : FVec F S2048x1024 .bf16) : IVec S1024 1 :=
  let main_cst : FVec F S_ .bf16 := constant S_ .bf16 0xFF80#16
  let main_v0 : FVec F S1024 .bf16 := (fun x v => Host.reduce FloatOps.maximumf x v reducesTo_S2048x1024_S1024_d0 h_S_) main_arg0 main_cst
  let main_v1 : FVec F S1x1024 .bf16 := broadcastInDim S1x1024 ![1] bcast_S1024_S1x1024_1 main_v0
  let main_v2 : FVec F S2048x1024 .bf16 := broadcastInDim S2048x1024 ![0, 1] bcast_S1x1024_S2048x1024_0_1 main_v1
  let main_v3 : IVec S2048x1024 1 := cmpf .oeq main_arg0 main_v2
  let main_v4 : FVec F S2048x1024 .f32 := uitofp .f32 main_v3
  let main_cst_0 : FVec F S_ .f32 := constant S_ .f32 0x00000000#32
  let main_v5 : FVec F S1024 .f32 := (fun x v => Host.reduceAdd x v reducesTo_S2048x1024_S1024_d0 h_S_) main_v4 main_cst_0
  let main_cst_1 : FVec F S_ .f32 := constant S_ .f32 0x3F800000#32
  let main_v6 : FVec F S1024 .f32 := broadcastInDim S1024 ![] bcast_S_S1024 main_cst_1
  let main_v7 : IVec S1024 1 := cmpf .oeq main_v5 main_v6
  main_v7
-- ==== Pre_one_maximum_ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

class Facts : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)

variable [Facts]

def fn {F : FTy → Type} [FloatOps F] (main_arg0 : FVec F S16384x1024 .bf16) : IVec S1024 1 :=
  let main_cst : FVec F S_ .bf16 := constant S_ .bf16 0xFF80#16
  let main_v0 : FVec F S1024 .bf16 := (fun x v => Host.reduce FloatOps.maximumf x v reducesTo_S16384x1024_S1024_d0 h_S_) main_arg0 main_cst
  let main_v1 : FVec F S1x1024 .bf16 := broadcastInDim S1x1024 ![1] bcast_S1024_S1x1024_1 main_v0
  let main_v2 : FVec F S16384x1024 .bf16 := broadcastInDim S16384x1024 ![0, 1] bcast_S1x1024_S16384x1024_0_1 main_v1
  let main_v3 : IVec S16384x1024 1 := cmpf .oeq main_arg0 main_v2
  let main_v4 : FVec F S16384x1024 .f32 := uitofp .f32 main_v3
  let main_cst_0 : FVec F S_ .f32 := constant S_ .f32 0x00000000#32
  let main_v5 : FVec F S1024 .f32 := (fun x v => Host.reduceAdd x v reducesTo_S16384x1024_S1024_d0 h_S_) main_v4 main_cst_0
  let main_cst_1 : FVec F S_ .f32 := constant S_ .f32 0x3F800000#32
  let main_v6 : FVec F S1024 .f32 := broadcastInDim S1024 ![] bcast_S_S1024 main_cst_1
  let main_v7 : IVec S1024 1 := cmpf .oeq main_v5 main_v6
  main_v7
-- ==== Kernel.lean ====
abbrev S2048x1024 : Shape := ⟨2, ![2048, 1024]⟩
abbrev S2x1024 : Shape := ⟨2, ![2, 1024]⟩
abbrev S8x2x1024 : Shape := ⟨3, ![8, 2, 1024]⟩
abbrev S8 : Shape := ⟨1, ![8]⟩
abbrev S_ : Shape := ⟨0, ![]⟩
abbrev S1024 : Shape := ⟨1, ![1024]⟩
abbrev S1x1024 : Shape := ⟨2, ![1, 1024]⟩
abbrev S2x2048 : Shape := ⟨2, ![2, 2048]⟩
abbrev S1x2x1024 : Shape := ⟨3, ![1, 2, 1024]⟩
abbrev S1 : Shape := ⟨1, ![1]⟩
abbrev S8x1x1024 : Shape := ⟨3, ![8, 1, 1024]⟩
abbrev S8x1024 : Shape := ⟨2, ![8, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2x1024, .f32⟩
  | .local _ .vmem, ⟨0, _⟩ => ⟨S2048x1024, .bf16⟩
  | .local _ .vmem, ⟨1, _⟩ => ⟨S2x1024, .f32⟩
  | .local _ .vmem, ⟨2, _⟩ => ⟨S8x2x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v165 : BitVec 32 := Scalar.addi v2 c1_i32_83
  let c8_i32_84 : BitVec 32 := 8#32
  let c0_i32_85 : BitVec 32 := 0#32
  let v166 : BitVec 1 := Scalar.cmpi .eq c8_i32_84 c0_i32_85
  let c1_i32_86 : BitVec 32 := 1#32
  let v167 : BitVec 32 := Scalar.select v166 c1_i32_86 c8_i32_84
  let v168 : BitVec 32 := Scalar.remsi v165 v167
  let c0_i32_88 : BitVec 32 := 0#32
  let v170 : BitVec 1 := Scalar.cmpi .slt v168 c0_i32_88
  let c0_i32_89 : BitVec 32 := 0#32
  let v171 : BitVec 1 := Scalar.cmpi .slt v167 c0_i32_89
  let v172 : BitVec 1 := Scalar.xori v170 v171
  let c0_i32_87 : BitVec 32 := 0#32
  let v169 : BitVec 1 := Scalar.cmpi .ne v168 c0_i32_87
  let v173 : BitVec 1 := Scalar.andi v172 v169
  let v174 : BitVec 32 := Scalar.addi v168 v167
  let v175 : BitVec 32 := Scalar.select v173 v174 v168
  let c1_i32_94 : BitVec 32 := 1#32
  let v176 : BitVec 32 := Scalar.muli v175 c1_i32_94
  let v177 : BitVec 32 := Scalar.addi c0_i32_95 v176
  v177.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_100 : BitVec 32 := 2#32
  let v186 : BitVec 32 := Scalar.addi v2 c2_i32_100
  let c8_i32_101 : BitVec 32 := 8#32
  let c0_i32_102 : BitVec 32 := 0#32
  let v187 : BitVec 1 := Scalar.cmpi .eq c8_i32_101 c0_i32_102
  let c1_i32_103 : BitVec 32 := 1#32
  let v188 : BitVec 32 := Scalar.select v187 c1_i32_103 c8_i32_101
  let v189 : BitVec 32 := Scalar.remsi v186 v188
  let c0_i32_105 : BitVec 32 := 0#32
  let v191 : BitVec 1 := Scalar.cmpi .slt v189 c0_i32_105
  let c0_i32_106 : BitVec 32 := 0#32
  let v192 : BitVec 1 := Scalar.cmpi .slt v188 c0_i32_106
  let v193 : BitVec 1 := Scalar.xori v191 v192
  let c0_i32_104 : BitVec 32 := 0#32
  let v190 : BitVec 1 := Scalar.cmpi .ne v189 c0_i32_104
  let v194 : BitVec 1 := Scalar.andi v193 v190
  let v195 : BitVec 32 := Scalar.addi v189 v188
  let v196 : BitVec 32 := Scalar.select v194 v195 v189
  let c1_i32_111 : BitVec 32 := 1#32
  let v197 : BitVec 32 := Scalar.muli v196 c1_i32_111
  let v198 : BitVec 32 := Scalar.addi c0_i32_112 v197
  v198.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v207 : BitVec 32 := Scalar.addi v2 c3_i32_117
  let c8_i32_118 : BitVec 32 := 8#32
  let c0_i32_119 : BitVec 32 := 0#32
  let v208 : BitVec 1 := Scalar.cmpi .eq c8_i32_118 c0_i32_119
  let c1_i32_120 : BitVec 32 := 1#32
  let v209 : BitVec 32 := Scalar.select v208 c1_i32_120 c8_i32_118
  let v210 : BitVec 32 := Scalar.remsi v207 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let c1_i32_128 : BitVec 32 := 1#32
  let v218 : BitVec 32 := Scalar.muli v217 c1_i32_128
  let v219 : BitVec 32 := Scalar.addi c0_i32_129 v218
  v219.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v228 : BitVec 32 := Scalar.addi v2 c4_i32_134
  let c8_i32_135 : BitVec 32 := 8#32
  let c0_i32_136 : BitVec 32 := 0#32
  let v229 : BitVec 1 := Scalar.cmpi .eq c8_i32_135 c0_i32_136
  let c1_i32_137 : BitVec 32 := 1#32
  let v230 : BitVec 32 := Scalar.select v229 c1_i32_137 c8_i32_135
  let v231 : BitVec 32 := Scalar.remsi v228 v230
  let c0_i32_139 : BitVec 32 := 0#32
  let v233 : BitVec 1 := Scalar.cmpi .slt v231 c0_i32_139
  let c0_i32_140 : BitVec 32 := 0#32
  let v234 : BitVec 1 := Scalar.cmpi .slt v230 c0_i32_140
  let v235 : BitVec 1 := Scalar.xori v233 v234
  let c0_i32_138 : BitVec 32 := 0#32
  let v232 : BitVec 1 := Scalar.cmpi .ne v231 c0_i32_138
  let v236 : BitVec 1 := Scalar.andi v235 v232
  let v237 : BitVec 32 := Scalar.addi v231 v230
  let v238 : BitVec 32 := Scalar.select v236 v237 v231
  let c1_i32_145 : BitVec 32 := 1#32
  let v239 : BitVec 32 := Scalar.muli v238 c1_i32_145
  let v240 : BitVec 32 := Scalar.addi c0_i32_146 v239
  v240.toNat
def k0_dev12 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_151 : BitVec 32 := 5#32
  let v249 : BitVec 32 := Scalar.addi v2 c5_i32_151
  let c8_i32_152 : BitVec 32 := 8#32
  let c0_i32_153 : BitVec 32 := 0#32
  let v250 : BitVec 1 := Scalar.cmpi .eq c8_i32_152 c0_i32_153
  let c1_i32_154 : BitVec 32 := 1#32
  let v251 : BitVec 32 := Scalar.select v250 c1_i32_154 c8_i32_152
  let v252 : BitVec 32 := Scalar.remsi v249 v251
  let c0_i32_156 : BitVec 32 := 0#32
  let v254 : BitVec 1 := Scalar.cmpi .slt v252 c0_i32_156
  let c0_i32_157 : BitVec 32 := 0#32
  let v255 : BitVec 1 := Scalar.cmpi .slt v251 c0_i32_157
  let v256 : BitVec 1 := Scalar.xori v254 v255
  let c0_i32_155 : BitVec 32 := 0#32
  let v253 : BitVec 1 := Scalar.cmpi .ne v252 c0_i32_155
  let v257 : BitVec 1 := Scalar.andi v256 v253
  let v258 : BitVec 32 := Scalar.addi v252 v251
  let v259 : BitVec 32 := Scalar.select v257 v258 v252
  let c1_i32_162 : BitVec 32 := 1#32
  let v260 : BitVec 32 := Scalar.muli v259 c1_i32_162
  let v261 : BitVec 32 := Scalar.addi c0_i32_163 v260
  v261.toNat
def k0_dev13 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v270 : BitVec 32 := Scalar.addi v2 c6_i32_168
  let c8_i32_169 : BitVec 32 := 8#32
  let c0_i32_170 : BitVec 32 := 0#32
  let v271 : BitVec 1 := Scalar.cmpi .eq c8_i32_169 c0_i32_170
  let c1_i32_171 : BitVec 32 := 1#32
  let v272 : BitVec 32 := Scalar.select v271 c1_i32_171 c8_i32_169
  let v273 : BitVec 32 := Scalar.remsi v270 v272
  let c0_i32_173 : BitVec 32 := 0#32
  let v275 : BitVec 1 := Scalar.cmpi .slt v273 c0_i32_173
  let c0_i32_174 : BitVec 32 := 0#32
  let v276 : BitVec 1 := Scalar.cmpi .slt v272 c0_i32_174
  let v277 : BitVec 1 := Scalar.xori v275 v276
  let c0_i32_172 : BitVec 32 := 0#32
  let v274 : BitVec 1 := Scalar.cmpi .ne v273 c0_i32_172
  let v278 : BitVec 1 := Scalar.andi v277 v274
  let v279 : BitVec 32 := Scalar.addi v273 v272
  let v280 : BitVec 32 := Scalar.select v278 v279 v273
  let c1_i32_179 : BitVec 32 := 1#32
  let v281 : BitVec 32 := Scalar.muli v280 c1_i32_179
  let v282 : BitVec 32 := Scalar.addi c0_i32_180 v281
  v282.toNat
def k0_dev14 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_185 : BitVec 32 := 7#32
  let v291 : BitVec 32 := Scalar.addi v2 c7_i32_185
  let c8_i32_186 : BitVec 32 := 8#32
  let c0_i32_187 : BitVec 32 := 0#32
  let v292 : BitVec 1 := Scalar.cmpi .eq c8_i32_186 c0_i32_187
  let c1_i32_188 : BitVec 32 := 1#32
  let v293 : BitVec 32 := Scalar.select v292 c1_i32_188 c8_i32_186
  let v294 : BitVec 32 := Scalar.remsi v291 v293
  let c0_i32_190 : BitVec 32 := 0#32
  let v296 : BitVec 1 := Scalar.cmpi .slt v294 c0_i32_190
  let c0_i32_191 : BitVec 32 := 0#32
  let v297 : BitVec 1 := Scalar.cmpi .slt v293 c0_i32_191
  let v298 : BitVec 1 := Scalar.xori v296 v297
  let c0_i32_189 : BitVec 32 := 0#32
  let v295 : BitVec 1 := Scalar.cmpi .ne v294 c0_i32_189
  let v299 : BitVec 1 := Scalar.andi v298 v295
  let v300 : BitVec 32 := Scalar.addi v294 v293
  let v301 : BitVec 32 := Scalar.select v299 v300 v294
  let c1_i32_196 : BitVec 32 := 1#32
  let v302 : BitVec 32 := Scalar.muli v301 c1_i32_196
  let v303 : BitVec 32 := Scalar.addi c0_i32_197 v302
  v303.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .i32⟩
  | .hbm, ⟨2, _⟩ => ⟨S_, .bf16⟩
  | .hbm, ⟨3, _⟩ => ⟨S_, .i32⟩
  | .hbm, ⟨4, _⟩ => ⟨S1024, .bf16⟩
  | .hbm, ⟨5, _⟩ => ⟨S1024, .i32⟩
  | .hbm, ⟨6, _⟩ => ⟨S1024, .f32⟩
  | .hbm, ⟨7, _⟩ => ⟨S_, .bf16⟩
  | .hbm, ⟨8, _⟩ => ⟨S1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.KernelRun.lean ====
/- The run read at the arrays: the result holds what the body leaves in its staging buffer, the operand what it held. -/
module

public import proofs.«01_k».proof.Proof.KernelLaunch
public import Idealize.ShloMosaic.Lib.Pipeline.ValueKit.Geometry

@[expose] public section

noncomputable section

namespace Cert.Kernel.Mesh

open Cert.Kernel Cert.Kernel.Gen
open Idealize.ShloMosaic Idealize.ShloMosaic.TcCoe Idealize.SL.Sem

variable {F : FTy → Type} [FloatOps F] (m : (ℓ : Loc nD τ sig) → Buf (Elt F) ℓ) (ρ : Dev nD → PrngReg)

/-- The one block of the operand is the whole of it. -/
theorem xstg_eq (c : Dev nD) : xstg m ρ c = m ((c.tc : Thread nD τ).loc main_arg0) :=
  funext fun i => congrArg (m ((c.tc : Thread nD τ).loc main_arg0)) (funext fun a => Fin.ext (Pipeline.Window.rect_emb_val_of_index_zero win0_0 (0 : Fin 1) a (by fin_cases a <;> decide +kernel) i))

/-- The one block of the result is the whole of it. -/
theorem finalA_out (c : Dev nD) : finalA m ρ c (1 : Fin 2) = outAt m ρ c := by
  funext i
  exact Pipeline.Dat.arrAt_emb_eq_after_last (dats m ρ 0 c) (1 : Fin 2) t0_0 (show win0_1.WholeAt (⟨0, by decide⟩ : Fin grid0.N) from by decide +kernel) i

/-- From any memory with zero counters: every execution ends with the result at `outAt` on every device, the operand as it was
    and every counter at zero. -/
theorem run : θ_run defs (onTc (τ := τ) (main (F := F))) ⟨m, fun _ => 0, ρ⟩ fun r => (∀ c : Dev nD,
    r.2.mem ((c.tc : Thread nD τ).loc main_v1) = outAt m ρ c ∧
    r.2.mem ((c.tc : Thread nD τ).loc main_arg0) = m ((c.tc : Thread nD τ).loc main_arg0)) ∧ r.2.sem = fun _ => 0 :=
  (θ_run defs _ _).mono
    (fun r h => ⟨fun c => ⟨(h.1 c (1 : Fin 2)).trans (finalA_out m ρ c), (h.1 c (0 : Fin 2)).trans (finalA_x m ρ c)⟩, h.2⟩)
    (run_main m ρ)

end Cert.Kernel.Mesh

end
-- ==== Proof.KernelIdealMesh.lean ====
/-
  The kernel's eight devices, their cells, and the program as seven steps four times over.

  Device `c` signals the barrier cell of each of the seven others, computes the pair (column maximum, row index) of its
  own block into slot 0 of its communication buffer, waits for the seven signals addressed to it, sends slot 0 to slot
  `d` of device `c + d` for `d = 1 … 7`, waits for its seven sends and for the seven slots to arrive, and combines the
  eight slots. Devices are numbers modulo 8 and so are slots, so that slot `d` of device `c` holds the pair of `c - d`.

  Who pays what: the barrier cell of `p` has seven duties, duty `e` paid by `p + e`, handing over slot `e` of that
  device's buffer; send cell `d` has one, handing back a share of slot 0; receive cell `d` of `p` has one, paid by `p - d`,
  handing over slot `d` filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.Tactic

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Slots, semaphores and destinations, by their number -/

abbrev xM : Memref sig .tc .vmem S2048x1024 .bf16 := Memref.whole cc0_stg0_0
abbrev oM : Memref sig .tc .vmem S2x1024 .f32 := Memref.whole cc0_stg1_0
abbrev cM : Memref sig .tc .vmem S8x2x1024 .f32 := Memref.whole cc0_scratch0

theorem inb_slot (d : Fin 8) : ∀ a, (![d.val, 0, 0] : Fin 3 → Nat) a + S1x2x1024.size a ≤ S8x2x1024.size a := by revert d; decide
theorem inb_sem (d : Fin 8) : ∀ a, (![d.val] : Fin 1 → Nat) a + S1.size a ≤ S8.size a := by revert d; decide

/-- Slot `d` of the communication buffer, as a rectangle and as the transfers name it. -/
abbrev slotR (d : Fin 8) : Rect S8x2x1024 := Rect.unit (s := S8x2x1024) ![d.val, 0, 0] S1x2x1024.size (inb_slot d)
abbrev slotM (d : Fin 8) : Memref sig .tc .vmem S2x1024 .f32 :=
  (cM.slice (slotR d) (fun _ => rfl)).squeeze S2x1024 squeezes_S1x2x1024_S2x1024

abbrev barS : Sem sig := (SemArray.scalar (sig.barrier 0 rfl) : Sems sig S_).sem
def sendS (d : Fin 8) : DmaSem sig := ((cc0_scratch1.slice (Rect.unit (s := S8) ![d.val] S1.size (inb_sem d))).squeeze S_ squeezes_S1_S_).sem
def recvS (d : Fin 8) : DmaSem sig := ((cc0_scratch2.slice (Rect.unit (s := S8) ![d.val] S1.size (inb_sem d))).squeeze S_ squeezes_S1_S_).sem

theorem sendS_val (d : Fin 8) : (sendS d).val = 2 + d.val := by revert d; decide
theorem recvS_val (d : Fin 8) : (recvS d).val = 10 + d.val := by revert d; decide

/-- The device that the signal, and the send, numbered `d` address. -/
def sigDst (c : Dev nD) : Fin 8 → Dev nD
  | 0 => c
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩
def sendDst (c : Dev nD) : Fin 8 → Dev nD
  | 0 => c
  | 1 => ⟨k0_dev8 c, k0_dev8_lt c⟩
  | 2 => ⟨k0_dev9 c, k0_dev9_lt c⟩
  | 3 => ⟨k0_dev10 c, k0_dev10_lt c⟩
  | 4 => ⟨k0_dev11 c, k0_dev11_lt c⟩
  | 5 => ⟨k0_dev12 c, k0_dev12_lt c⟩
  | 6 => ⟨k0_dev13 c, k0_dev13_lt c⟩
  | 7 => ⟨k0_dev14 c, k0_dev14_lt c⟩

theorem sigDst_eq : ∀ (c : Dev nD) (d : Fin 8), sigDst c d = c + d := by decide +kernel
theorem sendDst_eq : ∀ (c : Dev nD) (d : Fin 8), sendDst c d = c + d := by decide +kernel

/-- The numbers of the other devices' slots, in the order the kernel takes them. -/
abbrev others : List (Fin 8) := [1, 2, 3, 4, 5, 6, 7]

/-! ## What a device computes from its block -/

/-- The pair a device of number `c` computes from its block: the column maximum, and the row it stands in. -/
def pairOf (c : Dev nD) (x : FVec F S2048x1024 .bf16) : FVec F S1x2x1024 .f32 :=
  k0_pay11 (Scalar.remsi (Scalar.divsi (Dev.word c) 1#32) 8#32) (k0_pay3 (k0_pay2 x)) (k0_pay4 (k0_pay2 x)) k0_pay5 k0_pay6
    (Scalar.select (Scalar.cmpi .eq 128#32 0#32) 1#32 128#32) k0_pay7 k0_pay8 k0_pay9 k0_pay10

/-! ## The program, loop by loop -/

abbrev P : Type 1 := Prog (TpuEff nD τ sig (Elt F) Λ₀ .tc) PUnit

def sigStep (c : Dev nD) (d : Fin 8) (k : P (F := F)) : P (F := F) :=
  .op (.semSignal (sigDst c d, .tc) barS (1#32 : BitVec 32).toInt) fun _ => k
/-- A send from slot 0 into slot `d` of device `n`; -/
def sendTo (n : Dev nD) (d : Fin 8) (k : P (F := F)) : P (F := F) :=
  .op (.enqueueDma (slotM 0) (.remote (Dev.tc n) (slotM d) (.dma (sendS d))) (.dma (recvS d))
    ((View.wordExact_bits rfl).reshape _ _) ((View.wordExact_bits rfl).reshape _ _) ⟨⟨rfl, Or.inl rfl⟩, trivial⟩) fun _ => k
/-- the one numbered `d`. -/
def sendStep (c : Dev nD) (d : Fin 8) (k : P (F := F)) : P (F := F) := sendTo (sendDst c d) d k
def sentStep (d : Fin 8) (k : P (F := F)) : P (F := F) :=
  .op (.waitDma2 (sendS d) (slotM d) (slotM 0) ((View.wordExact_bits rfl).reshape _ _) ((View.wordExact_bits rfl).reshape _ _)) fun _ => k
def rcvdStep (d : Fin 8) (k : P (F := F)) : P (F := F) :=
  .op (.waitDma2 (recvS d) (slotM 0) (slotM d) ((View.wordExact_bits rfl).reshape _ _) ((View.wordExact_bits rfl).reshape _ _)) fun _ => k

abbrev xR : Rect S2048x1024 := Rect.unit (s := S2048x1024) ![0, 0] S2048x1024.size inb_S2048x1024_S2048x1024_0_0
abbrev oR : Rect S2x1024 := Rect.unit (s := S2x1024) ![0, 0] S2x1024.size inb_S2x1024_S2x1024_0_0
/-- Row 0 (the maxima), and row 1 (the indices), of the eight slots. -/
abbrev valR : Rect S8x2x1024 := Rect.unit (s := S8x2x1024) ![0, 0, 0] S8x1x1024.size inb_S8x2x1024_S8x1x1024_0_0_0
abbrev idxR : Rect S8x2x1024 := Rect.unit (s := S8x2x1024) ![0, 1, 0] S8x1x1024.size inb_S8x2x1024_S8x1x1024_0_1_0

/-- The last part: combine the eight slots. -/
def combine : P (F := F) :=
  .op (.load cM valR.toLoadRect (View.loadsAt_vmem h_S8x1x1024)) fun (v : Vec F S8x1x1024 .f32) =>
  .op (.load cM idxR.toLoadRect (View.loadsAt_vmem h_S8x1x1024)) fun (w : Vec F S8x1x1024 .f32) =>
  .op (.load oM oR.toLoadRect (View.loadsAt_vmem h_S2x1024)) fun _ =>
  .op (.store oM oR (k0_pay1 v w) Finset.univ (View.stores_vmem_bits_univ h_S2x1024 rfl) (.inl rfl)) fun _ => .ret ⟨⟩

/-- The middle part: the device's own pair into slot 0, then the seven signals awaited. -/
def fill (c : Dev nD) (k : P (F := F)) : P (F := F) :=
  .op (.load xM xR.toLoadRect (View.loadsAt_vmem h_S2048x1024)) fun (x : Vec F S2048x1024 .bf16) =>
  .op (.load cM (slotR 0).toLoadRect (View.loadsAt_vmem h_S1x2x1024)) fun _ =>
  .op (.store cM (slotR 0) (pairOf c x) Finset.univ (View.stores_vmem_bits_univ h_S1x2x1024 rfl) (.inl rfl)) fun _ =>
  .op (.semWait barS (7#32 : BitVec 32).toInt) fun _ => k

/-- Device `c`'s body. -/
def body (c : Dev nD) : P (F := F) :=
  others.foldr (sigStep c) (fill c (others.foldr (sendStep c) (others.foldr sentStep (others.foldr rcvdStep combine))))

set_option maxRecDepth 65536 in
/-- The printed body is that. -/
theorem cc0_body_eq :
    cc0_body (F := F) xM (Memref.isWhole_whole _) oM (Memref.isWhole_whole _) cM (Memref.isWhole_whole _) cc0_scratch1 cc0_scratch2
      = .op .deviceId fun c => body c := rfl

end Cert.KernelIdeal.Mesh

end
-- ==== Proof.KernelIdealSched.lean ====
/-
  The schedule of the kernel's cells: who pays which duty, how much, and what is handed over with it.
-/
module

public import proofs.«01_k».proof.Proof.KernelIdealMesh

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sendCell (c : Dev nD) (d : Fin 8) : GSem nD τ sig := ((c : Thread nD τ), .dma (sendS d))
abbrev recvCell (c : Dev nD) (d : Fin 8) : GSem nD τ sig := ((c : Thread nD τ), .dma (recvS d))

/-- The kernel's own (scoped) semaphores: the sends' on the left, the receives' on the right; -/
abbrev osem : Fin 8 ⊕ Fin 8 → SemLoc sig := Sum.elim (fun d => .dma (sendS d)) (fun d => .dma (recvS d))
/-- with the barrier's, a device's cells. -/
abbrev csem : Option (Fin 8 ⊕ Fin 8) → SemLoc sig := fun k => k.elim (.reg barS) osem
abbrev kcell (ck : Dev nD × Option (Fin 8 ⊕ Fin 8)) : GSem nD τ sig := ((ck.1 : Thread nD τ), csem ck.2)

abbrev N : ℕ := (slotM 0).view.dmaCredit
theorem N_pos : 0 < N := View.dmaCredit_pos _ (by decide)

/-! ## Contents -/

/-- Device `c`'s block of the operand, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The pair device `c` computes. -/
def pair (c : Dev nD) : FVec F S1x2x1024 .f32 := pairOf c (xstg m ρ c)

/-- An element's place in its slot. -/
def inSlot (i : S8x2x1024.Idx) : S1x2x1024.Idx := fun
  | 0 => (0 : Fin 1)
  | 1 => i 1
  | 2 => i 2

/-- The slot an element lies in. -/
def slotOf (i : S8x2x1024.Idx) : Fin 8 := i 0

theorem dev_sub_zero (c : Dev nD) : c - (0 : Fin 8) = c := by revert c; decide
theorem dev_add_sub (c : Dev nD) (d : Fin 8) : c + d - d = c := by revert c d; decide
theorem dev_sub_add (c : Dev nD) (d : Fin 8) : c - d + d = c := by revert c d; decide

/-- What device `c`'s communication buffer holds once all slots have arrived: in slot `d` the pair of `c - d`. -/
def gathered (c : Dev nD) : (cc0_scratch0 : Ref sig .tc).ty.Contents (Elt F) :=
  fun i => pair m ρ (c - slotOf i) (inSlot i)

theorem first_zero (y : S1x2x1024.Idx) : (y 0).val = 0 := Nat.lt_one_iff.mp (y 0).isLt

theorem slot_emb (d : Fin 8) (y : S1x2x1024.Idx) (a) : (((slotR d).emb y) a).val = (![d.val, 0, 0] : Fin 3 → Nat) a + (y a).val := by
  rw [Rect.emb_apply]
  show (![d.val, 0, 0] : Fin 3 → Nat) a + 1 * (y a).val = _
  rw [one_mul]

theorem emb_slot_zero (d : Fin 8) (y : S1x2x1024.Idx) : ((slotR d).emb y 0 : Fin 8) = d := by
  apply Fin.ext
  refine (slot_emb d y 0).trans ?_
  rw [first_zero]; rfl

theorem inSlot_emb (d : Fin 8) (y : S1x2x1024.Idx) : inSlot ((slotR d).emb y) = y := by
  funext a
  apply Fin.ext
  match a with
  | 0 => exact (first_zero y).symm
  | 1 => exact (slot_emb d y 1).trans (Nat.zero_add _)
  | 2 => exact (slot_emb d y 2).trans (Nat.zero_add _)

theorem emb_inSlot (i : S8x2x1024.Idx) : (slotR (i 0 : Fin 8)).emb (inSlot i) = i := by
  funext a
  apply Fin.ext
  refine (slot_emb _ _ a).trans ?_
  match a with
  | 0 => rfl
  | 1 => exact Nat.zero_add _
  | 2 => exact Nat.zero_add _

theorem gathered_emb (c : Dev nD) (d : Fin 8) (y : S1x2x1024.Idx) : gathered m ρ c ((slotR d).emb y) = pair m ρ (c - d) y := by
  show pair m ρ (c - slotOf ((slotR d).emb y)) (inSlot ((slotR d).emb y)) = _
  rw [show slotOf ((slotR d).emb y) = d from emb_slot_zero d y, inSlot_emb]

/-! ## The slots as sets of elements -/

theorem slot_set (d : Fin 8) : (slotM d).view.set = (slotR d).set :=
  (View.set_reshape _ _).trans (View.set_slice_whole cc0_scratch0 (slotR d))

theorem mem_slot {d : Fin 8} {i : S8x2x1024.Idx} : i ∈ (slotM d).view.set ↔ (i 0 : Fin 8) = d := by
  rw [slot_set, ← Rect.map_emb_univ, Finset.mem_map]
  constructor
  · rintro ⟨y, -, rfl⟩; exact emb_slot_zero d y
  · rintro rfl; exact ⟨inSlot i, Finset.mem_univ _, emb_inSlot i⟩

theorem slots_disjoint {d d' : Fin 8} (h : d ≠ d') : Disjoint (slotM d).view.set (slotM d').view.set :=
  Finset.disjoint_left.mpr fun i hi hi' => h ((mem_slot.mp hi).symm.trans (mem_slot.mp hi'))

theorem slots_cover : Finset.univ.biUnion (fun d : Fin 8 => (slotM d).view.set) = (Finset.univ : Finset S8x2x1024.Idx) :=
  Finset.eq_univ_iff_forall.mpr fun i => Finset.mem_biUnion.mpr ⟨(i 0 : Fin 8), Finset.mem_univ _, mem_slot.mpr rfl⟩

abbrev CommBuf (c : Dev nD) : Type := Buf (Elt F) ((c : Thread nD τ).loc cc0_scratch0)

/-- Slot `d` of device `c`'s buffer, at share `q` and contents `f`. -/
def slotPts (c : Dev nD) (d : Fin 8) (q : PosShare TreeShare) (f : CommBuf (F := F) c) : sProp 𝕄 :=
  (slotM d).view.loc (c : Thread nD τ) ↦[(slotM d).view.set]{q} f

omit [FloatOps F] in
instance slotPts_storable (c : Dev nD) (d q f) : BI.Storable (upEmb : UEmb _ 𝕄) (slotPts (F := F) c d q f) := by
  unfold slotPts; infer_instance

omit [FloatOps F] in
/-- The whole buffer is its eight slots. -/
theorem slots_eq (c : Dev nD) (f : CommBuf (F := F) c) :
    (((c : Thread nD τ).loc cc0_scratch0) ↦{fullShare} f : sProp 𝕄) = bigSep Finset.univ fun d : Fin 8 => slotPts c d fullShare f := by
  have h := pointsTo_biUnion (Ix := Unit) (Val := Elt F) (Name := ℕ) (U := UU) (Lvl := ℕ) (ℓ := (c : Thread nD τ).loc cc0_scratch0) (q := fullShare) (f := f) Finset.univ
    (fun d : Fin 8 => (slotM d).view.set) (fun d _ d' _ h => slots_disjoint h)
  rw [slots_cover] at h
  exact h

/-- Slot 0 in the eight shares that the seven sends and the device itself hold. -/
def shareAt (d : Fin 8) : PosShare TreeShare := ShareLeaves.leaf 3 fullShare d
omit [FloatOps F] in
theorem shares_eq (c : Dev nD) (f : CommBuf (F := F) c) :
    (slotPts c 0 fullShare f : sProp 𝕄) = bigSep Finset.univ fun d : Fin 8 => slotPts c 0 (shareAt d) f :=
  ShareLeaves.pointsTo_leaves _ f 3 fullShare

/-- The eight slots, or shares, one by one. -/
theorem univ_others : (Finset.univ : Finset (Fin 8)) = (0 :: others).toFinset := by decide
omit [FloatOps F] in
theorem bigSep_slots (Φ : Fin 8 → sProp 𝕄) : bigSep Finset.univ Φ = iprop(Φ 0 ∗ bigSepL others Φ) :=
  bigSep_univ_eq_bigSepL (0 :: others) univ_others (by decide) Φ

/-- What a transfer from slot 0 of `c` leaves in slot `d` of `c + d` is that slot's share of what `c + d` gathers. -/
theorem landed (c : Dev nD) (d : Fin 8) (fd : CommBuf (F := F) (c + d)) :
    ((slotM d).view.loc ((c + d : Dev nD) : Thread nD τ) ↦[(slotM d).view.set]{fullShare}
        (slotM d).view.write (Elt F) fd ((slotM 0).view.read (Elt F) (gathered m ρ c)) Finset.univ : sProp 𝕄)
      = slotPts (c + d) d fullShare (gathered m ρ (c + d)) := by
  unfold slotPts
  refine pointsTo_congr fun i hi => ?_
  obtain ⟨y, -, rfl⟩ := Finset.mem_map.mp hi
  refine (View.write_emb_of_mem _ _ (Finset.mem_univ y)).trans ?_
  show gathered m ρ c ((slotR 0).emb (Shape.reshapeEquiv _ y)) = gathered m ρ (c + d) ((slotR d).emb (Shape.reshapeEquiv _ y))
  rw [gathered_emb, gathered_emb, dev_add_sub, dev_sub_zero]

/-- Slot 0 once the device has stored its pair. -/
theorem stored (c : Dev nD) (f : CommBuf (F := F) c) :
    (slotPts c 0 fullShare ((cM.access (slotR 0)).write (Elt F) f (pair m ρ c) Finset.univ) : sProp 𝕄) = slotPts c 0 fullShare (gathered m ρ c) := by
  unfold slotPts
  refine pointsTo_congr fun i hi => ?_
  rw [slot_set, ← Rect.map_emb_univ] at hi
  obtain ⟨y, -, rfl⟩ := Finset.mem_map.mp hi
  refine (View.write_emb_of_mem (v := cM.access (slotR 0)) (Val := Elt F) f (pair m ρ c) (Finset.mem_univ y)).trans ?_
  refine Eq.trans ?_ (gathered_emb m ρ c 0 y).symm
  rw [dev_sub_zero]
  rfl

/-! ## The schedule -/

/-- What `p + e`'s signal hands `p`: its slot `e`, and that it is at the first round of that slot's cell. -/
def barPay (p : Dev nD) (e : Fin 8) : sProp 𝕄 := iprop((∃ f, slotPts (p + e) e fullShare f) ∗ reached ER (recvCell (p + e) e) 0)
/-- What a send hands back: its share of slot 0. -/
def sendPay (c : Dev nD) (d : Fin 8) : sProp 𝕄 := slotPts c 0 (shareAt d) (gathered m ρ c)
/-- What an arrival hands over: its slot, filled. -/
def recvPay (c : Dev nD) (d : Fin 8) : sProp 𝕄 := slotPts c d fullShare (gathered m ρ c)

/-- Which slot a transfer semaphore serves. -/
def slotNo (q : DmaSem sig) : Fin 8 := ⟨(q.val - 2) % 8, Nat.mod_lt _ (by decide)⟩
theorem slotNo_send (d : Fin 8) : slotNo (sendS d) = d := by
  apply Fin.ext; show ((sendS d).val - 2) % 8 = d.val; rw [sendS_val]; omega
theorem slotNo_recv (d : Fin 8) : slotNo (recvS d) = d := by
  apply Fin.ext; show ((recvS d).val - 2) % 8 = d.val; rw [recvS_val]; omega

def dutiesOf : SemLoc sig → Finset (Fin 8)
  | .reg _ => Finset.univ.erase 0
  | .dma q => if slotNo q = 0 then ∅ else {0}
def payOf (c : Dev nD) (e : Fin 8) : SemLoc sig → sProp 𝕄
  | .reg _ => barPay c e
  | .dma q => if q.val < 10 then sendPay m ρ c (slotNo q) else recvPay m ρ c (slotNo q)
def amountOf : SemLoc sig → ℕ
  | .reg _ => 1
  | .dma _ => N

/-- One round, round 0: a barrier cell has the seven duties `1 … 7` of one unit each; a send or a receive cell of slots
    `1 … 7` the duty 0 of a slot's credit. -/
def rd : Rounds.Schedule (GSem nD τ sig) (Fin 8) 𝕄 where
  duties g r := if r = 0 ∧ g.1.2 = .tc then dutiesOf g.2 else ∅
  unitless _ := False
  amount g _ _ := amountOf g.2
  payload g _ e := payOf m ρ g.1.1 e g.2
  amount_pos g _ _ _ := by
    rcases g with ⟨_, _ | _⟩
    · exact Nat.one_pos
    · exact N_pos

instance rd_payload_storable (g : GSem nD τ sig) (r : ℕ) (e : Fin 8) : BI.Storable (upEmb : UEmb _ 𝕄) ((rd (F := F) m ρ).payload g r e) := by
  rcases g with ⟨c, _ | q⟩
  · show BI.Storable upEmb (barPay c.1 e)
    unfold barPay; infer_instance
  · show BI.Storable upEmb (if q.val < 10 then sendPay m ρ c.1 (slotNo q) else recvPay m ρ c.1 (slotNo q))
    unfold sendPay recvPay; split <;> infer_instance

section Table
variable (c : Dev nD) (d : Fin 8)

theorem duties_bar : (rd m ρ).duties (barCell c) 0 = Finset.univ.erase 0 := by
  dsimp only [rd]; rw [if_pos ⟨rfl, rfl⟩]; rfl
theorem duties_send (hd : d ≠ 0) : (rd m ρ).duties (sendCell c d) 0 = {0} := by
  dsimp only [rd]; rw [if_pos ⟨rfl, rfl⟩]; dsimp only [dutiesOf]; rw [slotNo_send, if_neg hd]
theorem duties_recv (hd : d ≠ 0) : (rd m ρ).duties (recvCell c d) 0 = {0} := by
  dsimp only [rd]; rw [if_pos ⟨rfl, rfl⟩]; dsimp only [dutiesOf]; rw [slotNo_recv, if_neg hd]
theorem duties_later (g : GSem nD τ sig) : ∀ r, 1 ≤ r → (rd m ρ).duties g r = ∅ :=
  fun r hr => by dsimp only [rd]; exact if_neg fun h => by omega
/-- The cells numbered 0 have no duty at all. -/
theorem duties_none {g : GSem nD τ sig} (hg : g = sendCell c 0 ∨ g = recvCell c 0) : ∀ r, 0 ≤ r → (rd m ρ).duties g r = ∅ := fun r _ => by
  show (if r = 0 ∧ g.1.2 = .tc then dutiesOf g.2 else ∅) = ∅
  split
  · rcases hg with rfl | rfl
    · dsimp only [dutiesOf]; rw [slotNo_send, if_pos rfl]
    · dsimp only [dutiesOf]; rw [slotNo_recv, if_pos rfl]
  · rfl

theorem amount_bar (e : Fin 8) : (rd m ρ).amount (barCell c) 0 e = 1 := rfl
theorem amount_send (e : Fin 8) : (rd m ρ).amount (sendCell c d) 0 e = N := rfl
theorem amount_recv (e : Fin 8) : (rd m ρ).amount (recvCell c d) 0 e = N := rfl

theorem expect_bar : (rd m ρ).expect (barCell c) 0 = 7 := by
  unfold Schedule.expect Schedule.amountOf
  rw [duties_bar, Finset.sum_congr rfl fun e _ => amount_bar m ρ c e]; decide
theorem expect_send (hd : d ≠ 0) : (rd m ρ).expect (sendCell c d) 0 = N := by
  unfold Schedule.expect Schedule.amountOf; rw [duties_send m ρ c d hd, Finset.sum_singleton, amount_send]
theorem expect_recv (hd : d ≠ 0) : (rd m ρ).expect (recvCell c d) 0 = N := by
  unfold Schedule.expect Schedule.amountOf; rw [duties_recv m ρ c d hd, Finset.sum_singleton, amount_recv]

theorem payload_bar (e : Fin 8) : (rd m ρ).payload (barCell c) 0 e = barPay c e := rfl
theorem payload_send (e : Fin 8) : (rd m ρ).payload (sendCell c d) 0 e = sendPay m ρ c d := by
  show (if (sendS d).val < 10 then sendPay m ρ c (slotNo (sendS d)) else recvPay m ρ c (slotNo (sendS d))) = _
  rw [if_pos (by rw [sendS_val]; omega), slotNo_send]
theorem payload_recv (e : Fin 8) : (rd m ρ).payload (recvCell c d) 0 e = recvPay m ρ c d := by
  show (if (recvS d).val < 10 then sendPay m ρ c (slotNo (recvS d)) else recvPay m ρ c (slotNo (recvS d))) = _
  rw [if_neg (by rw [recvS_val]; omega), slotNo_recv]

/-- The rest of each cell's round, no duty taken. -/
theorem rest_bar : bigSep ((rd m ρ).duties (barCell c) 0 \ ∅) (fun e => (rd m ρ).payload (barCell c) 0 e) = bigSepL others (fun e => barPay c e) := by
  rw [Finset.sdiff_empty, duties_bar]
  exact bigSep_eq_bigSepL_of_eq others (by decide) (by decide) _
theorem rest_send (hd : d ≠ 0) : bigSep ((rd m ρ).duties (sendCell c d) 0 \ ∅) (fun e => (rd m ρ).payload (sendCell c d) 0 e) = sendPay m ρ c d := by
  rw [Finset.sdiff_empty, duties_send m ρ c d hd, bigSep_singleton, payload_send]
theorem rest_recv (hd : d ≠ 0) : bigSep ((rd m ρ).duties (recvCell c d) 0 \ ∅) (fun e => (rd m ρ).payload (recvCell c d) 0 e) = recvPay m ρ c d := by
  rw [Finset.sdiff_empty, duties_recv m ρ c d hd, bigSep_singleton, payload_recv]

end Table

/-! ## What a device owes at launch, and the levels -/

/-- The credits of the slots still to send, and the units of the devices still to signal. -/
def owedSends (c : Dev nD) (l : List (Fin 8)) : CellTallies nD τ sig Unit := (l.map fun d => tallyAt (recvCell (c + d) d) () N).sum
def owedSigs (c : Dev nD) (l : List (Fin 8)) : CellTallies nD τ sig Unit := (l.map fun d => tallyAt (barCell (c + d)) () 1).sum
def O₀ (c : Dev nD) : CellTallies nD τ sig Unit := owedSends c others + owedSigs c others

theorem owedSends_cons (c : Dev nD) (d : Fin 8) (l) : owedSends c (d :: l) = owedSends c l + tallyAt (recvCell (c + d) d) () N := by
  unfold owedSends; rw [List.map_cons, List.sum_cons, add_comm]
theorem owedSigs_cons (c : Dev nD) (O : CellTallies nD τ sig Unit) (d : Fin 8) (l) :
    O + owedSigs c (d :: l) = O + owedSigs c l + tallyAt (barCell (c + d)) () 1 := by
  unfold owedSigs; rw [List.map_cons, List.sum_cons, add_comm (tallyAt _ _ _), add_assoc]

theorem sum_tallies_apply {ι : Type} (f : ι → CellTallies nD τ sig Unit) (g : GSem nD τ sig) (u : Unit) (l : List ι) :
    (l.map f).sum g u = (l.map fun d => f d g u).sum := by
  induction l with
  | nil => rfl
  | cons d l ih => rw [List.map_cons, List.sum_cons, Pi.add_apply, Finsupp.add_apply, ih, List.map_cons, List.sum_cons]

theorem sum_pos {ι : Type} (f : ι → ℕ) {l : List ι} (h : 0 < (l.map f).sum) : ∃ d ∈ l, 0 < f d := by
  induction l with
  | nil => exact absurd h (lt_irrefl 0)
  | cons d l ih =>
    rw [List.map_cons, List.sum_cons] at h
    rcases Nat.eq_zero_or_pos (f d) with h0 | h0
    · obtain ⟨d', hd', h'⟩ := ih (by omega)
      exact ⟨d', List.mem_cons_of_mem _ hd', h'⟩
    · exact ⟨d, List.mem_cons_self, h0⟩

theorem owedSends_pos {c : Dev nD} {l} {g : GSem nD τ sig} {u : Unit} (h : 0 < owedSends c l g u) : ∃ d, g = recvCell (c + d) d := by
  unfold owedSends at h
  rw [sum_tallies_apply] at h
  obtain ⟨d, -, h⟩ := sum_pos _ h
  refine ⟨d, by_contra fun hn => ?_⟩
  rw [tallyAt_apply, if_neg (fun h' => hn h'.1)] at h
  exact lt_irrefl 0 h
theorem owedSigs_pos {c : Dev nD} {l} {g : GSem nD τ sig} {u : Unit} (h : 0 < owedSigs c l g u) : ∃ d, g = barCell (c + d) := by
  unfold owedSigs at h
  rw [sum_tallies_apply] at h
  obtain ⟨d, -, h⟩ := sum_pos _ h
  refine ⟨d, by_contra fun hn => ?_⟩
  rw [tallyAt_apply, if_neg (fun h' => hn h'.1)] at h
  exact lt_irrefl 0 h

def L (g : GSem nD τ sig) : Finset Unit := if g.1.2 = .tc then {()} else ∅
/-- Barrier cells at 1, receive cells at 2, the others at 0. -/
def lvOf : SemLoc sig → ℕ
  | .reg _ => 1
  | .dma q => if q.val < 10 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (d : Fin 8) : lv (recvCell c d) () = 2 := if_neg (by rw [recvS_val]; omega)
theorem lv_bar (c : Dev nD) : lv (barCell c) () = 1 := rfl

theorem O₀_pos {c : Dev nD} {g : GSem nD τ sig} {u : Unit} (h : 0 < O₀ c g u) : (∃ d, g = recvCell (c + d) d) ∨ ∃ d, g = barCell (c + d) := by
  unfold O₀ at h
  rw [Pi.add_apply, Finsupp.add_apply] at h
  rcases Nat.eq_zero_or_pos (owedSends c others g u) with h0 | h0
  · rw [h0, Nat.zero_add] at h; exact .inr (owedSigs_pos h)
  · exact .inl (owedSends_pos h0)

omit [FloatOps F] in
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_pos hq).le)
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes receive cells only, which lie above its barrier cell. -/
theorem mayWait_bar (c : Dev nD) : (levAts L lv : sProp 𝕄) ⊢ MayWait (c : Thread nD τ) (.reg barS) () (owedSends c others) :=
  MayOwe.of_cut (L := L) (lev := lv) 1 (fun p hp => by rw [Finset.mem_singleton.mp hp, L_tc]; exact Finset.mem_singleton_self _)
    (fun g u hg => by obtain ⟨d, rfl⟩ := owedSends_pos hg; exact Finset.mem_singleton_self _)
    (fun p hp => by rw [Finset.mem_singleton.mp hp]; exact (lv_bar c).le)
    (fun g u hg => by obtain ⟨d, rfl⟩ := owedSends_pos hg; rw [lv_recv]; decide)

end Cert.KernelIdeal.Mesh

end
-- ==== Proof.KernelIdealBody.lean ====
/-
  The kernel body on one device, executed symbolically: its four loops by one induction, the rest effect by effect.
-/
module

public import proofs.«01_k».proof.Proof.KernelIdealSched

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev Cell : Type := Dev nD × Option (Fin 8 ⊕ Fin 8)

/-- Every cell's invariant, and that every cell is at its first round. -/
def records (K : Cell → ℕ) : sProp 𝕄 :=
  iprop((bigSep Finset.univ fun ck : Cell => cellInv ER (rd m ρ) (K ck) (kcell ck)) ∗ bigSep Finset.univ fun ck : Cell => reached ER (kcell ck) 0)

instance records_persistent (K : Cell → ℕ) : BI.Persistent (records m ρ K) := by unfold records; infer_instance

theorem records_inv (K : Cell → ℕ) (ck : Cell) : records m ρ K ⊢ cellInv ER (rd m ρ) (K ck) (kcell ck) := by
  unfold records
  iintro ⟨H, -⟩
  iapply (show (bigSep Finset.univ fun ck : Cell => (cellInv ER (rd m ρ) (K ck) (kcell ck) : sProp 𝕄)) ⊢ cellInv ER (rd m ρ) (K ck) (kcell ck) from
    bigSep_elim (Finset.mem_univ ck)); iexact H
theorem records_reached (K : Cell → ℕ) (ck : Cell) : records m ρ K ⊢ reached ER (kcell ck) 0 := by
  unfold records
  iintro ⟨-, H⟩
  iapply (show (bigSep Finset.univ fun ck : Cell => (reached ER (kcell ck) 0 : sProp 𝕄)) ⊢ reached ER (kcell ck) 0 from bigSep_elim (Finset.mem_univ ck)); iexact H

/-- The weakest precondition of a program on device `c`. -/
abbrev wpc (c : Dev nD) (k : P (F := F)) (Q : PUnit → sProp 𝕄) : sProp 𝕄 :=
  wp frame (wpE (defs₀ (F := F)) 𝒱₀ (c : Thread nD τ) none) Set.univ k Q

/-- Device `c` owes `O`, whatever it has waited for. -/
def owing (c : Dev nD) (O : CellTallies nD τ sig Unit) : sProp 𝕄 := iprop(∃ W, owes (c : Thread nD τ) O W)

/-- One induction for the kernel's loops: a step that turns the state `St (d :: l)` into `St l`, using `In d` and leaving `Out d`. -/
theorem loop (c : Dev nD) (R : sProp 𝕄) [BI.Persistent R] (St : List (Fin 8) → sProp 𝕄) (In Out : Fin 8 → sProp 𝕄)
    (f : Fin 8 → P (F := F) → P (F := F)) (Q : PUnit → sProp 𝕄)
    (step : ∀ d l k, d ≠ 0 → iprop(R ∗ St (d :: l) ∗ In d) ⊢ iprop(((St l ∗ Out d) -∗ wpc c k Q) -∗ wpc c (f d k) Q)) :
    ∀ l : List (Fin 8), (∀ d ∈ l, d ≠ 0) → ∀ k,
      iprop(R ∗ St l ∗ bigSepL l In) ⊢ iprop(((St [] ∗ bigSepL l Out) -∗ wpc c k Q) -∗ wpc c (l.foldr f k) Q) := by
  intro l
  induction l with
  | nil =>
    intro _ k
    show iprop(R ∗ St [] ∗ emp) ⊢ iprop(((St [] ∗ emp) -∗ wpc c k Q) -∗ wpc c k Q)
    iintro ⟨-, HS, HI⟩ Hk
    iapply Hk
    isplitl [HS] <;> iassumption
  | cons d l ih =>
    intro hl k
    rw [bigSepL_cons', bigSepL_cons', List.foldr_cons]
    iintro ⟨#HR, HS, HI, HL⟩ Hk
    iapply (step d l _ (hl d List.mem_cons_self)) $$ [HS HI]
    · isplitr; · iexact HR
      isplitl [HS] <;> iassumption
    iintro ⟨HS, HO⟩
    iapply (ih (fun d' h => hl d' (List.mem_cons_of_mem _ h)) k) $$ [HS HL]
    · isplitr; · iexact HR
      isplitl [HS] <;> iassumption
    iintro ⟨HS, HL⟩
    iapply Hk
    isplitl [HS]; · iexact HS
    isplitl [HO] <;> iassumption

theorem others_ne : ∀ d ∈ others, d ≠ 0 := by decide
theorem neg_ne : ∀ {d : Fin 8}, d ≠ 0 → -d ≠ 0 := by decide

/-! ## The steps -/

section Steps
variable (K : Cell → ℕ) (c : Dev nD)

/-- Slot `d` at any contents. -/
def slotEx (d : Fin 8) : sProp 𝕄 := iprop(∃ f, slotPts (F := F) c d fullShare f)

theorem dev_add_neg (d : Fin 8) : c + d + -d = c := by revert c d; decide

theorem barPay_neg (d : Fin 8) : (barPay (F := F) (c + d) (-d) : sProp 𝕄) = iprop(slotEx c (-d) ∗ reached ER (recvCell c (-d)) 0) := by
  unfold barPay slotEx; rw [dev_add_neg]

/-- The signal numbered `d` hands `c + d` the slot into which `c + d` will send. -/
theorem sig_step (O : CellTallies nD τ sig Unit) (d : Fin 8) (l : List (Fin 8)) (k : P (F := F)) (Q : PUnit → sProp 𝕄) (hd : d ≠ 0) :
    iprop(records m ρ K ∗ owing c (O + owedSigs c (d :: l)) ∗ (slotEx c (-d) ∗ dutyTok ER (barCell (c + d)) 0 (-d)))
      ⊢ iprop(((owing c (O + owedSigs c l) ∗ emp) -∗ wpc c k Q) -∗ wpc c (sigStep c d k) Q) := by
  unfold sigStep owing
  rw [sigDst_eq]
  iintro ⟨#HR, ⟨%W, HO⟩, Hs, Ht⟩ Hk
  iapply (Rounds.wp_signal 𝒱₀ ER (rd m ρ) (c : Thread nD τ) none (dst := ((c + d : Dev nD) : Thread nD τ)) (κ := K (c + d, none))
      (d := -d) (by rw [duties_bar]; exact Finset.mem_erase.mpr ⟨neg_ne hd, Finset.mem_univ _⟩) ((amount_bar m ρ (c + d) (-d)).trans (by decide)) ()
      (O + owedSigs c l) (owedSigs_cons c O d l)) $$ [HO Hs Ht]
  · isplitr; · iapply (records_inv m ρ K (c + d, none)); iexact HR
    isplitl [HO]; · iexact HO
    isplitl [Ht]; · iexact Ht
    isplitl [Hs]
    · rw [payload_bar, barPay_neg]
      isplitl [Hs]; · iexact Hs
      iapply (records_reached m ρ K (c, some (.inr (-d)))); iexact HR
    iapply (records_reached m ρ K (c + d, none)); iexact HR
  iintro HO
  iapply Hk
  isplitl; · iexists W; iexact HO
  iempintro

theorem credit_eq (d : Fin 8) : (slotM d).view.dmaCredit = N := rfl

/-- The send rule at the kernel's cells. -/
theorem wp_send_slot (n : Dev nD) (d : Fin 8) (hd : d ≠ 0) (k : P (F := F)) (Q : PUnit → sProp 𝕄)
    (fd : CommBuf (F := F) n) (O : CellTallies nD τ sig Unit) (W : Waits sig Unit)
    (hpay : ((slotM d).view.loc (n : Thread nD τ) ↦[(slotM d).view.set]{fullShare}
        (slotM d).view.write (Elt F) fd ((slotM 0).view.read (Elt F) (gathered m ρ c)) Finset.univ : sProp 𝕄) ⊢ (rd m ρ).payload (recvCell n d) 0 0) :
    iprop(cellInv ER (rd m ρ) (K (c, some (.inl d))) (sendCell c d) ∗ cellInv ER (rd m ρ) (K (n, some (.inr d))) (recvCell n d)
        ∗ sendPay m ρ c d ∗ slotPts n d fullShare fd
        ∗ owes (c : Thread nD τ) (O + tallyAt (recvCell n d) () N) W
        ∗ dutyTok ER (sendCell c d) 0 0 ∗ reached ER (sendCell c d) 0
        ∗ dutyTok ER (recvCell n d) 0 0 ∗ reached ER (recvCell n d) 0)
      ⊢ iprop(((cred (tallyAt (sendCell c d) () N) ∗ owes (c : Thread nD τ) O W) -∗ wpc c k Q) -∗ wpc c (sendTo n d k) Q) :=
  Rounds.wp_send_pointsTo 𝒱₀ ER (rd m ρ) (c : Thread nD τ) none (c' := (n : Thread nD τ)) (src := slotM 0) (dst := slotM d)
    (sS := .dma (sendS d)) (sem := .dma (recvS d)) (k := fun _ => k) (q := shareAt d) (fs := gathered m ρ c)
    (κ₁ := K (c, some (.inl d))) (κ₂ := K (n, some (.inr d))) (r₁ := 0) (r₂ := 0) (d₁ := 0) (d₂ := 0) (fd := fd)
    (by rw [duties_send m ρ c d hd]; exact Finset.mem_singleton_self _) (by rw [duties_recv m ρ n d hd]; exact Finset.mem_singleton_self _)
    () () N (credit_eq d) (amount_send m ρ c d 0) (amount_recv m ρ n d 0) O rfl (W := W)
    (Entails.of_eq (payload_send m ρ c d 0).symm) hpay

/-- The send numbered `d`: a share of slot 0, and slot `d` of `c + d`. -/
theorem send_step (d : Fin 8) (l : List (Fin 8)) (k : P (F := F)) (Q : PUnit → sProp 𝕄) (hd : d ≠ 0) :
    iprop(records m ρ K ∗ owing c (owedSends c (d :: l))
        ∗ (barPay c d ∗ sendPay m ρ c d ∗ dutyTok ER (sendCell c d) 0 0 ∗ dutyTok ER (recvCell (c + d) d) 0 0))
      ⊢ iprop(((owing c (owedSends c l) ∗ cred (tallyAt (sendCell c d) () N)) -∗ wpc c k Q) -∗ wpc c (sendStep c d k) Q) := by
  unfold sendStep owing barPay
  rw [sendDst_eq, owedSends_cons]
  iintro ⟨#HR, ⟨%W, HO⟩, ⟨⟨%fd, Hdst⟩, #Hr⟩, Hsrc, HtS, HtV⟩ Hk
  iapply (wp_send_slot m ρ K c (c + d) d hd k Q fd (owedSends c l) W
    (Entails.of_eq ((landed m ρ c d fd).trans (payload_recv m ρ (c + d) d 0).symm))) $$ [HO Hdst Hsrc HtS HtV]
  · isplitr; · iapply (records_inv m ρ K (c, some (.inl d))); iexact HR
    isplitr; · iapply (records_inv m ρ K (c + d, some (.inr d))); iexact HR
    isplitl [Hsrc]; · iexact Hsrc
    isplitl [Hdst]; · iexact Hdst
    isplitl [HO]; · iexact HO
    isplitl [HtS]; · iexact HtS
    isplitr; · iapply (records_reached m ρ K (c, some (.inl d))); iexact HR
    isplitl [HtV]; · iexact HtV
    iexact Hr
  iintro ⟨HcS, HO⟩
  iapply Hk
  isplitl [HO]; · iexists W; iexact HO
  iexact HcS

/-- A send awaited: its share of slot 0 is back, and its cell is closed. -/
theorem sent_step (d : Fin 8) (l : List (Fin 8)) (k : P (F := F)) (Q : PUnit → sProp 𝕄) (hd : d ≠ 0) :
    iprop(records m ρ K ∗ owing c 0 ∗ (cred (tallyAt (sendCell c d) () N) ∗ atPos ER (sendCell c d) 0 ∅ 0))
      ⊢ iprop(((owing c 0 ∗ (semVal (sendCell c d) 0 ∗ sendPay m ρ c d)) -∗ wpc c k Q) -∗ wpc c (sentStep d k) Q) := by
  unfold sentStep owing
  iintro ⟨#HR, ⟨%W, HO⟩, Hc, Hat⟩ Hk
  iapply (Rounds.wp_wait_rest_token 𝒱₀ ER (rd m ρ) (c : Thread nD τ) none (κ := K (c, some (.inl d)))
      (wpE_waitDma2_eq 𝒱₀ (c : Thread nD τ) none Set.univ) (Set.mem_univ _) () (O := 0) (W := W) (R := 0) (m := 0) (T := ∅)
      (by rw [Nat.zero_add, expect_send m ρ c d hd])) $$ [Hc HO Hat]
  · isplitr; · iapply (records_inv m ρ K (c, some (.inl d))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c d hd)) $$ Hpay
  imod (Rounds.cell_close ER (rd m ρ) (Set.mem_univ (K (c, some (.inl d)))) (fun h => h) (R := 0 + 1) (duties_later m ρ (sendCell c d))) $$ [Hat] with Hz
  · isplitr; · iapply (records_inv m ρ K (c, some (.inl d))); iexact HR
    iexact Hat
  iapply Hk
  isplitl [HO]; · iexists _; iexact HO
  isplitl [Hz] <;> iassumption

/-- An arrival awaited: its slot, filled, and its cell is closed. -/
theorem rcvd_step (d : Fin 8) (l : List (Fin 8)) (k : P (F := F)) (Q : PUnit → sProp 𝕄) (hd : d ≠ 0) :
    iprop(records m ρ K ∗ owing c 0 ∗ (cred (tallyAt (recvCell c d) () N) ∗ atPos ER (recvCell c d) 0 ∅ 0))
      ⊢ iprop(((owing c 0 ∗ (semVal (recvCell c d) 0 ∗ recvPay m ρ c d)) -∗ wpc c k Q) -∗ wpc c (rcvdStep d k) Q) := by
  unfold rcvdStep owing
  iintro ⟨#HR, ⟨%W, HO⟩, Hc, Hat⟩ Hk
  iapply (Rounds.wp_wait_rest_token 𝒱₀ ER (rd m ρ) (c : Thread nD τ) none (κ := K (c, some (.inr d)))
      (wpE_waitDma2_eq 𝒱₀ (c : Thread nD τ) none Set.univ) (Set.mem_univ _) () (O := 0) (W := W) (R := 0) (m := 0) (T := ∅)
      (by rw [Nat.zero_add, expect_recv m ρ c d hd])) $$ [Hc HO Hat]
  · isplitr; · iapply (records_inv m ρ K (c, some (.inr d))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c d hd)) $$ Hpay
  imod (Rounds.cell_close ER (rd m ρ) (Set.mem_univ (K (c, some (.inr d)))) (fun h => h) (R := 0 + 1) (duties_later m ρ (recvCell c d))) $$ [Hat] with Hz
  · isplitr; · iapply (records_inv m ρ K (c, some (.inr d))); iexact HR
    iexact Hat
  iapply Hk
  isplitl [HO]; · iexists _; iexact HO
  isplitl [Hz] <;> iassumption

end Steps

/-! ## The per-device state -/

/-- Two conjunctions over one list are one. -/
theorem bigSepL_zip (l : List (Fin 8)) (Φ Ψ : Fin 8 → sProp 𝕄) : iprop(bigSepL l Φ ∗ bigSepL l Ψ) ⊢ bigSepL l fun d => iprop(Φ d ∗ Ψ d) := by
  induction l with
  | nil =>
    show iprop(emp ∗ emp) ⊢ (iprop(emp) : sProp 𝕄)
    iintro ⟨H, -⟩; iexact H
  | cons d l ih =>
    rw [bigSepL_cons', bigSepL_cons', bigSepL_cons']
    iintro ⟨⟨H1, H2⟩, H3, H4⟩
    isplitl [H1 H3]
    · isplitl [H1] <;> iassumption
    iapply ih
    isplitl [H2] <;> iassumption
theorem bigSepL_unzip (l : List (Fin 8)) (Φ Ψ : Fin 8 → sProp 𝕄) : (bigSepL l fun d => iprop(Φ d ∗ Ψ d)) ⊢ iprop(bigSepL l Φ ∗ bigSepL l Ψ) := by
  induction l with
  | nil =>
    show (iprop(emp) : sProp 𝕄) ⊢ iprop(emp ∗ emp)
    iintro H
    isplitl [H]; · iexact H
    iempintro
  | cons d l ih =>
    rw [bigSepL_cons', bigSepL_cons', bigSepL_cons']
    iintro ⟨⟨H1, H2⟩, H3⟩
    ihave H := ih $$ H3
    icases H with ⟨H3, H4⟩
    isplitl [H1 H3]
    · isplitl [H1] <;> iassumption
    · isplitl [H2] <;> iassumption

/-- The slots in the order in which the signals hand them out. -/
theorem bigSep_slots_neg (Φ : Fin 8 → sProp 𝕄) : bigSep Finset.univ Φ = iprop(Φ 0 ∗ bigSepL others fun d => Φ (-d)) := by
  rw [bigSep_univ_eq_bigSepL [0, -1, -2, -3, -4, -5, -6, -7] (by decide) (by decide) Φ]
  rfl

/-- The whole communication buffer. -/
def commPts (c : Dev nD) (f : CommBuf (F := F) c) : sProp 𝕄 := ((c : Thread nD τ).loc cc0_scratch0) ↦{fullShare} f

/-- What device `c` alone holds: its positions, and the tokens of the duties it pays. -/
def linear (c : Dev nD) : sProp 𝕄 :=
  iprop(atPos ER (barCell c) 0 ∅ 0
    ∗ (bigSep Finset.univ fun d : Fin 8 => atPos ER (sendCell c d) 0 ∅ 0) ∗ (bigSep Finset.univ fun d : Fin 8 => atPos ER (recvCell c d) 0 ∅ 0)
    ∗ (bigSepL others fun d => dutyTok ER (barCell (c + d)) 0 (-d))
    ∗ (bigSepL others fun d => dutyTok ER (sendCell c d) 0 0)
    ∗ bigSepL others fun d => dutyTok ER (recvCell (c + d) d) 0 0)

/-- What a device holds when its body starts, besides the communication buffer. -/
def held (K : Cell → ℕ) (c : Dev nD) : sProp 𝕄 :=
  iprop(records m ρ K ∗ linear c ∗ cred (tallyAt (barCell c) () 7) ∗ (bigSepL others fun d => cred (tallyAt (recvCell c d) () N)) ∗ levAts L lv)

def start (c : Dev nD) : sProp 𝕄 := iprop(∃ K, held m ρ K c)

/-- Before the body: that, and the communication buffer at any contents. -/
def Φ₀ (c : Dev nD) : sProp 𝕄 := iprop(start m ρ c ∗ ∃ f, commPts c f)
/-- After it: the gathered buffer, and every cell closed at zero. -/
def Φ₁ (c : Dev nD) : sProp 𝕄 :=
  iprop(commPts c (gathered m ρ c) ∗ (bigSep Finset.univ fun d : Fin 8 => semVal (sendCell c d) 0) ∗ (bigSep Finset.univ fun d : Fin 8 => semVal (recvCell c d) 0)
    ∗ semVal (barCell c) 0)

/-- What the body leaves in the output's staging buffer. -/
def outAt (c : Dev nD) : (cc0_stg1_0 : Ref sig .tc).ty.Contents (Elt F) :=
  k0_pay1 (cM.view.readAt (Elt F) valR.toLoadRect (gathered m ρ c)) (cM.view.readAt (Elt F) idxR.toLoadRect (gathered m ρ c))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Cell → ℕ)

theorem hz : (![0, 0] : Fin 2 → Nat) = fun _ => 0 := funext fun a => by fin_cases a <;> rfl
theorem read_x (f : (cc0_stg0_0 : Ref sig .tc).ty.Contents (Elt F)) : xM.view.readAt (Elt F) xR.toLoadRect f = f :=
  Memref.readAt_unit_zero (Elt F) cc0_stg0_0 hz _ f
theorem write_out (f w : (cc0_stg1_0 : Ref sig .tc).ty.Contents (Elt F)) : (oM.access oR : View sig .tc _ _ _).write (Elt F) f w Finset.univ = w :=
  Memref.write_access_unit_zero_univ (Elt F) cc0_stg1_0 hz _ f w
theorem slot_load : cM.view.setOn (slotR 0).toLoadRect.set ⊆ (slotM 0).view.set :=
  ((View.set_slice cM.view (slotR 0)).symm.trans ((View.set_slice_whole cc0_scratch0 (slotR 0)).trans (slot_set 0).symm)).subset
theorem slot_store : (cM.access (slotR 0)).setOn Finset.univ ⊆ (slotM 0).view.set := by
  rw [View.setOn_univ, slot_set]; exact (View.set_slice_whole cc0_scratch0 (slotR 0)).subset

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((held m ρ K c ∗ ∃ f, commPts c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-- A cell numbered 0, never used, closes at once. -/
theorem close_send0 (c : Dev nD) : iprop(records m ρ K ∗ atPos ER (sendCell c 0) 0 ∅ 0) ⊢ (|={Set.univ}=> semVal (sendCell c 0) 0 : sProp 𝕄) := by
  iintro ⟨#HR, Hat⟩
  iapply (Rounds.cell_close ER (rd m ρ) (Set.mem_univ (K (c, some (.inl 0)))) (fun h => h) (R := 0) (duties_none m ρ c (.inl rfl)))
  isplitr; · iapply (records_inv m ρ K (c, some (.inl 0))); iexact HR
  iexact Hat
theorem close_recv0 (c : Dev nD) : iprop(records m ρ K ∗ atPos ER (recvCell c 0) 0 ∅ 0) ⊢ (|={Set.univ}=> semVal (recvCell c 0) 0 : sProp 𝕄) := by
  iintro ⟨#HR, Hat⟩
  iapply (Rounds.cell_close ER (rd m ρ) (Set.mem_univ (K (c, some (.inr 0)))) (fun h => h) (R := 0) (duties_none m ρ c (.inr rfl)))
  isplitr; · iapply (records_inv m ρ K (c, some (.inr 0))); iexact HR
  iexact Hat

set_option maxHeartbeats 1600000 in
/-- The body, symbolically executed from `bodyPre` to `bodyPost`. -/
theorem sound_body (c : Dev nD) (Kt : PUnit → sProp 𝕄) :
    iprop(bodyPre m ρ K c ∗ (bodyPost m ρ c -∗ Kt ⟨⟩)) ⊢ wpc c (body c) Kt := by
  unfold bodyPre held linear
  iintro ⟨⟨⟨⟨#HR, ⟨HaB, HaS, HaV, HtB, HtS, HtV⟩, HcB, HcV, #Hlev⟩, ⟨%f0, Hcomm⟩⟩, Ho, ⟨%d0, %g0, %hg0, Hx⟩, ⟨%d1, %g1, %hg1, Hout⟩⟩, Hk⟩
  have hx : g0 = xstg m ρ c := by rw [hg0]; unfold Pipeline.Dat.before; rw [if_pos (fetch_0 t0_0)]; rfl
  subst hx
  unfold Pipeline.Dat.owesAt Pipeline.owesWithin
  icases Ho with ⟨%W, %hW, HO⟩
  rw [show (dats m ρ 0 c).owed t0_0.castSucc = O₀ c from rfl]
  -- the buffer slot by slot, the positions cell by cell
  unfold commPts
  ihave Hsl := (Entails.of_eq ((slots_eq c f0).trans (bigSep_slots_neg _))) $$ Hcomm
  icases Hsl with ⟨Hs0, Hsl⟩
  ihave HaS := (Entails.of_eq (bigSep_slots fun d : Fin 8 => (atPos ER (sendCell c d) 0 ∅ 0 : sProp 𝕄))) $$ HaS
  icases HaS with ⟨HaS0, HaS⟩
  ihave HaV := (Entails.of_eq (bigSep_slots fun d : Fin 8 => (atPos ER (recvCell c d) 0 ∅ 0 : sProp 𝕄))) $$ HaV
  icases HaV with ⟨HaV0, HaV⟩
  unfold body
  -- the seven signals
  iapply (loop c (records m ρ K) (fun l => owing c (owedSends c others + owedSigs c l)) (fun d => iprop(slotEx c (-d) ∗ dutyTok ER (barCell (c + d)) 0 (-d)))
    (fun _ => iprop(emp)) (sigStep c) Kt (fun d l k hd => sig_step m ρ K c (owedSends c others) d l k Kt hd) others others_ne _) $$ [HO Hsl HtB]
  · isplitr; · iexact HR
    isplitl [HO]; · unfold owing; iexists W; iexact HO
    iapply (bigSepL_zip others (fun d => slotEx c (-d)) (fun d => dutyTok ER (barCell (c + d)) 0 (-d)))
    isplitl [Hsl]
    · iapply (bigSepL_mono (l := others) fun d _ => show slotPts c (-d) fullShare f0 ⊢ slotEx c (-d) from by
        unfold slotEx; iintro H; iexists f0; iexact H)
      iexact Hsl
    iexact HtB
  iintro ⟨HO, -⟩
  unfold owing
  icases HO with ⟨%W', HO⟩
  rw [show owedSends c others + owedSigs c [] = owedSends c others from add_zero _]
  -- the device's own pair into slot 0
  unfold fill
  iapply (wp_load 𝒱₀ (c : Thread nD τ) none Set.univ (m := xM) (Finset.subset_univ _)) $$ Hx; iintro Hx
  rw [read_x]
  unfold slotPts
  iapply (wp_load 𝒱₀ (c : Thread nD τ) none Set.univ (m := cM) slot_load) $$ Hs0; iintro Hs0
  iapply (wp_store 𝒱₀ (c : Thread nD τ) none Set.univ (m := cM) (r := slotR 0) (Mk := Finset.univ) slot_store) $$ Hs0; iintro Hs0
  ihave Hs0 := (show ((cM.access (slotR 0)).loc (c : Thread nD τ) ↦[(slotM 0).view.set]{fullShare}
      (cM.access (slotR 0)).write (Elt F) f0 (pairOf c (xstg m ρ c)) Finset.univ : sProp 𝕄) ⊢ slotPts c 0 fullShare (gathered m ρ c) from
    Entails.of_eq (stored m ρ c f0)) $$ Hs0
  -- the barrier: every peer's slot comes with it
  iapply (Rounds.wp_wait_rest_token 𝒱₀ ER (rd m ρ) (c : Thread nD τ) none (κ := K (c, none))
      (wpE_semWait_eq 𝒱₀ (c : Thread nD τ) none Set.univ) (Set.mem_univ _) () (O := owedSends c others) (W := W') (R := 0) (m := 0) (T := ∅)
      (by rw [expect_bar]; decide)) $$ [HcB HO HaB]
  · isplitr; · iapply (records_inv m ρ K (c, none)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  -- slot 0 in eight shares, one for each send and one kept
  ihave Hsh := (Entails.of_eq ((shares_eq c (gathered m ρ c)).trans (bigSep_slots _))) $$ Hs0
  icases Hsh with ⟨Hkeep, Hsh⟩
  -- the seven sends
  iapply (loop c (records m ρ K) (fun l => owing c (owedSends c l))
    (fun d => iprop(barPay c d ∗ sendPay m ρ c d ∗ dutyTok ER (sendCell c d) 0 0 ∗ dutyTok ER (recvCell (c + d) d) 0 0))
    (fun d => cred (tallyAt (sendCell c d) () N)) (sendStep c) Kt (fun d l k hd => send_step m ρ K c d l k Kt hd) others others_ne _) $$ [HO Hp Hsh HtS HtV]
  · isplitr; · iexact HR
    isplitl [HO]; · unfold owing; iexists _; iexact HO
    iapply (bigSepL_zip others (fun d => barPay c d) (fun d => iprop(sendPay m ρ c d ∗ dutyTok ER (sendCell c d) 0 0 ∗ dutyTok ER (recvCell (c + d) d) 0 0)))
    isplitl [Hp]; · iexact Hp
    iapply (bigSepL_zip others (fun d => sendPay m ρ c d) (fun d => iprop(dutyTok ER (sendCell c d) 0 0 ∗ dutyTok ER (recvCell (c + d) d) 0 0)))
    isplitl [Hsh]; · unfold sendPay; iexact Hsh
    iapply (bigSepL_zip others (fun d => dutyTok ER (sendCell c d) 0 0) (fun d => dutyTok ER (recvCell (c + d) d) 0 0))
    isplitl [HtS] <;> iassumption
  iintro ⟨HO, HcS⟩
  -- they have left
  iapply (loop c (records m ρ K) (fun _ => owing c 0) (fun d => iprop(cred (tallyAt (sendCell c d) () N) ∗ atPos ER (sendCell c d) 0 ∅ 0))
    (fun d => iprop(semVal (sendCell c d) 0 ∗ sendPay m ρ c d)) sentStep Kt (fun d l k hd => sent_step m ρ K c d l k Kt hd) others others_ne _) $$ [HO HcS HaS]
  · isplitr; · iexact HR
    isplitl [HO]; · iexact HO
    iapply (bigSepL_zip others (fun d => cred (tallyAt (sendCell c d) () N)) (fun d => atPos ER (sendCell c d) 0 ∅ 0))
    isplitl [HcS] <;> iassumption
  iintro ⟨HO, HS⟩
  -- the others' have arrived
  iapply (loop c (records m ρ K) (fun _ => owing c 0) (fun d => iprop(cred (tallyAt (recvCell c d) () N) ∗ atPos ER (recvCell c d) 0 ∅ 0))
    (fun d => iprop(semVal (recvCell c d) 0 ∗ recvPay m ρ c d)) rcvdStep Kt (fun d l k hd => rcvd_step m ρ K c d l k Kt hd) others others_ne _) $$ [HO HcV HaV]
  · isplitr; · iexact HR
    isplitl [HO]; · iexact HO
    iapply (bigSepL_zip others (fun d => cred (tallyAt (recvCell c d) () N)) (fun d => atPos ER (recvCell c d) 0 ∅ 0))
    isplitl [HcV] <;> iassumption
  iintro ⟨HO, HV⟩
  ihave HS := (bigSepL_unzip others (fun d => semVal (sendCell c d) 0) (fun d => sendPay m ρ c d)) $$ HS
  icases HS with ⟨HzS, Hsh⟩
  ihave HV := (bigSepL_unzip others (fun d => semVal (recvCell c d) 0) (fun d => recvPay m ρ c d)) $$ HV
  icases HV with ⟨HzV, Hsl⟩
  -- the whole buffer again
  ihave Hs0 := (Entails.of_eq ((shares_eq c (gathered m ρ c)).trans (bigSep_slots _)).symm) $$ [Hkeep Hsh]
  · isplitl [Hkeep]; · iexact Hkeep
    unfold sendPay; iexact Hsh
  ihave Hcomm := (Entails.of_eq ((slots_eq c (gathered m ρ c)).trans (bigSep_slots _)).symm) $$ [Hs0 Hsl]
  · isplitl [Hs0]; · iexact Hs0
    unfold recvPay; iexact Hsl
  -- the cells left close
  imod (Rounds.cell_close ER (rd m ρ) (Set.mem_univ (K (c, none))) (fun h => h) (R := 0 + 1) (duties_later m ρ (barCell c))) $$ [HaB] with HzB
  · isplitr; · iapply (records_inv m ρ K (c, none)); iexact HR
    iexact HaB
  imod (close_send0 m ρ K c) $$ [HaS0] with HzS0
  · isplitr; · iexact HR
    iexact HaS0
  imod (close_recv0 m ρ K c) $$ [HaV0] with HzV0
  · isplitr; · iexact HR
    iexact HaV0
  -- the combination
  unfold combine
  iapply (wp_load 𝒱₀ (c : Thread nD τ) none Set.univ (m := cM) (Finset.subset_univ _)) $$ Hcomm; iintro Hcomm
  iapply (wp_load 𝒱₀ (c : Thread nD τ) none Set.univ (m := cM) (Finset.subset_univ _)) $$ Hcomm; iintro Hcomm
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_out, wp_ret]; imodintro
  iapply Hk
  unfold bodyPost Φ₁ Pipeline.Dat.owesAt Pipeline.owesWithin
  rw [show (dats m ρ 0 c).owed t0_0.succ = 0 from rfl]
  isplitl [Hcomm HzS HzV HzB HzS0 HzV0]
  · isplitl [Hcomm]; · unfold commPts; iexact Hcomm
    isplitl [HzS HzS0]
    · iapply (Entails.of_eq (bigSep_slots fun d : Fin 8 => (semVal (sendCell c d) 0 : sProp 𝕄)).symm)
      isplitl [HzS0] <;> iassumption
    isplitl [HzV HzV0]
    · iapply (Entails.of_eq (bigSep_slots fun d : Fin 8 => (semVal (recvCell c d) 0 : sProp 𝕄)).symm)
      isplitl [HzV0] <;> iassumption
    iexact HzB
  isplitl [HO]
  · unfold owing
    icases HO with ⟨%W2, HO⟩
    iexists W2
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- The body obligation of the launch, on device `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) xM (Memref.isWhole_whole _) oM (Memref.isWhole_whole _) cM (Memref.isWhole_whole _) cc0_scratch1 cc0_scratch2) (fun _ => bodyPost m ρ c)
  rw [cc0_body_eq]
  simp only [wp_deviceId]
  unfold bodyPre' Φ₀ start
  iintro ⟨⟨⟨%K, Hh⟩, Hcomm⟩, Ho, Hx, Hout⟩
  iapply (sound_body m ρ K c fun _ => bodyPost m ρ c)
  unfold bodyPre
  isplitr []
  · isplitl [Hh Hcomm]
    · isplitl [Hh] <;> iassumption
    isplitl [Ho]; · iexact Ho
    isplitl [Hx] <;> iassumption
  · iintro H; iexact H

end Body

end Cert.KernelIdeal.Mesh

end
-- ==== Proof.KernelIdealLaunch.lean ====
/-
  The launch: the kernel's cells and tokens dealt to the devices, and the run of @main.
-/
module

public import proofs.«01_k».proof.Proof.KernelIdealBody
public import Idealize.ShloMosaic.Lib.Quiescent
public import Idealize.ShloMosaic.Lib.Pipeline.CollectiveSegs

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Pipeline.Dat.share; split <;> rfl

/-! ### The cells and the tokens -/

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's tokens: eight of its barrier cell, one of each send cell and of each receive cell. -/
abbrev TokIx : Type := Fin 8 ⊕ (Fin 8 ⊕ Fin 8)
abbrev dutyOf : TokIx → SemLoc sig × Fin 8 :=
  Sum.elim (fun e => (.reg barS, e)) (Sum.elim (fun d => (.dma (sendS d), 0)) fun d => (.dma (recvS d), 0))
theorem dutyOf_injective : Function.Injective dutyOf := by decide
abbrev tokOf (cj : Dev nD × TokIx) : GSem nD τ sig × ℕ × Fin 8 := (((cj.1 : Thread nD τ), (dutyOf cj.2).1), 0, (dutyOf cj.2).2)
theorem tokOf_injective : Function.Injective tokOf := by
  rintro ⟨c, j⟩ ⟨c', j'⟩ h
  have h1 : c = c' := congrArg (fun x : GSem nD τ sig × ℕ × Fin 8 => x.1.1.1) h
  have h2 : j = j' := dutyOf_injective (congrArg (fun x : GSem nD τ sig × ℕ × Fin 8 => (x.1.2, x.2.2)) h)
  rw [h1, h2]
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun e : Fin 8 => dutyTok ER (barCell c) 0 e)
    ∗ (bigSep Finset.univ fun d : Fin 8 => dutyTok ER (sendCell c d) 0 0) ∗ bigSep Finset.univ fun d : Fin 8 => dutyTok ER (recvCell c d) 0 0)

/-- What the launch deals device `c`; -/
def G (c : Dev nD) : sProp 𝕄 :=
  iprop((bigSep Finset.univ fun k => roundState ER (rd m ρ) (kcell (c, k)) 0)
    ∗ (bigSep Finset.univ fun k => iprop(atPos ER (kcell (c, k)) 0 ∅ 0 ∗ reached ER (kcell (c, k)) 0)) ∗ toks c)
/-- and what it has once every cell's invariant is allocated and the tokens are dealt around. -/
def G' (c : Dev nD) : sProp 𝕄 := iprop(∃ K, records m ρ K ∗ linear c)

theorem bigSep_option {A : Type} [Fintype A] [DecidableEq A] (Φ : Option A → sProp 𝕄) :
    bigSep Finset.univ Φ = iprop(Φ none ∗ bigSep Finset.univ fun a => Φ (some a)) := by
  have h : (Finset.univ : Finset (Option A)).erase none = Finset.univ.map Function.Embedding.some := by
    ext x; cases x <;> simp
  rw [bigSep_univ_at Φ none, h, bigSep_map]; rfl

/-- A device's cells: its barrier cell, its send cells and its receive cells. -/
theorem bigSep_cells (Φ : Option (Fin 8 ⊕ Fin 8) → sProp 𝕄) :
    bigSep Finset.univ Φ = iprop(Φ none ∗ (bigSep Finset.univ fun d : Fin 8 => Φ (some (.inl d))) ∗ bigSep Finset.univ fun d : Fin 8 => Φ (some (.inr d))) := by
  rw [bigSep_option, BI.bigSep_univ_sum]; rfl

theorem bigSep_kcells (c : Dev nD) (Φ : GSem nD τ sig → sProp 𝕄) : (bigSep Finset.univ fun k => Φ (kcell (c, k)))
    = iprop(Φ (barCell c) ∗ (bigSep Finset.univ fun d : Fin 8 => Φ (sendCell c d)) ∗ bigSep Finset.univ fun d : Fin 8 => Φ (recvCell c d)) :=
  bigSep_cells fun k => Φ (kcell (c, k))

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ bigSep Finset.univ fun d : Fin 8 => semVal (recvCell c d) 0) := by
  unfold Pipeline.ownSems0; rw [BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_kcells c fun g => semVal g 0]
  iintro ⟨HO, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around -/

/-- Device `c`'s signal numbered `d` pays duty `-d` of device `c + d`; -/
def sigTurn : Dev nD × Fin 8 ≃ Dev nD × Fin 8 where
  toFun x := (x.1 + x.2, -x.2)
  invFun x := (x.1 + x.2, -x.2)
  left_inv := by decide
  right_inv := by decide
/-- its send numbered `d` the arrival in slot `d` there. -/
def sendTurn : Dev nD × Fin 8 ≃ Dev nD × Fin 8 where
  toFun x := (x.1 + x.2, x.2)
  invFun x := (x.1 - x.2, x.2)
  left_inv := by decide
  right_inv := by decide

theorem turn (e : Dev nD × Fin 8 ≃ Dev nD × Fin 8) (Φ : Dev nD → Fin 8 → sProp 𝕄) :
    (bigSep Finset.univ fun c => bigSep Finset.univ fun d => Φ c d) ⊢ bigSep Finset.univ fun c : Dev nD => bigSepL others fun d => Φ (e (c, d)).1 (e (c, d)).2 := by
  rw [← bigSep_univ_prod (fun x : Dev nD × Fin 8 => Φ x.1 x.2), bigSep_univ_equiv e (fun x : Dev nD × Fin 8 => Φ x.1 x.2), bigSep_univ_prod]
  refine bigSep_mono fun c _ => ?_
  show (bigSep Finset.univ fun d => Φ (e (c, d)).1 (e (c, d)).2) ⊢ bigSepL others fun d => Φ (e (c, d)).1 (e (c, d)).2
  rw [bigSep_slots]
  iintro ⟨-, H⟩; iexact H

/-- The tokens of the duties device `c` pays. -/
def payToks (c : Dev nD) : sProp 𝕄 :=
  iprop((bigSepL others fun d => dutyTok ER (barCell (c + d)) 0 (-d)) ∗ (bigSepL others fun d => dutyTok ER (sendCell c d) 0 0)
    ∗ bigSepL others fun d => dutyTok ER (recvCell (c + d) d) 0 0)

theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  isplitl [H1]; · iapply (turn sigTurn fun c e => dutyTok ER (barCell c) 0 e); iexact H1
  isplitl [H2]; · iapply (turn (Equiv.refl _) fun c d => dutyTok ER (sendCell c d) 0 0); iexact H2
  iapply (turn sendTurn fun c d => dutyTok ER (recvCell c d) 0 0); iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop((bigSep Finset.univ fun k => atPos ER (kcell (c, k)) 0 ∅ 0) ∗ payToks c) ⊢ (linear c : sProp 𝕄) := by
  unfold linear payToks
  rw [bigSep_kcells c fun g => atPos ER g 0 ∅ 0]
  iintro ⟨⟨HB, HS, HV⟩, HT⟩
  isplitl [HB]; · iexact HB
  isplitl [HS]; · iexact HS
  isplitl [HV] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Cell => iprop(∃ κ : ℕ, cellInv ER (rd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Cell => (reached ER (kcell ck) 0 : sProp 𝕄))]
  iintro ⟨HI, ⟨Hat, #HR⟩, Htok⟩
  ihave HK := (BI.bigSep_exists_pi Finset.univ (fun (ck : Cell) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k => (atPos ER (kcell (c, k)) 0 ∅ 0 : sProp 𝕄)) payToks).symm).trans
      (bigSep_mono fun c _ => linear_intro c))
    isplitl [Hat]; · iexact Hat
    iexact Htk

/-- Own and unscoped semaphores of every device at once become the devices' invariants, positions and tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem tally_eq (g g' : GSem nD τ sig) (n : ℕ) : (tallyAt g () n : CellTallies nD τ sig Unit) g' () = n * if g' = g then 1 else 0 := by
  rw [tallyAt_apply]
  by_cases h : g' = g
  · rw [if_pos ⟨h, rfl⟩, if_pos h, mul_one]
  · rw [if_neg (fun h' => h h'.1), if_neg h, mul_zero]

theorem bar_eq_iff {a b : Dev nD} : barCell a = barCell b ↔ a = b := ⟨fun h => congrArg (fun g : GSem nD τ sig => g.1.1) h, fun h => h ▸ rfl⟩
theorem recvS_injective : Function.Injective recvS := by decide
theorem recv_eq_iff {a b : Dev nD} {d e : Fin 8} : recvCell a d = recvCell b e ↔ a = b ∧ d = e :=
  ⟨fun h => ⟨congrArg (fun g : GSem nD τ sig => g.1.1) h, recvS_injective (SemLoc.dma.inj (congrArg Prod.snd h))⟩, fun ⟨h, h'⟩ => by rw [h, h']⟩
theorem recv_ne_bar {a b : Dev nD} {d : Fin 8} : recvCell a d ≠ barCell b := fun h => by
  have h' : (SemLoc.dma (recvS d) : SemLoc sig) = .reg barS := congrArg Prod.snd h
  cases h'

/-- Which of device `p`'s signals, and of its sends, reach a cell. -/
def barHits (p c : Dev nD) : ℕ := (others.map fun e : Fin 8 => if c = p + e then 1 else 0).sum
def recvHits (p c : Dev nD) (d : Fin 8) : ℕ := (others.map fun e : Fin 8 => if c = p + e ∧ d = e then 1 else 0).sum
theorem sum_barHits : ∀ c : Dev nD, ∑ p : Dev nD, barHits p c = 7 := by decide
theorem sum_recvHits : ∀ (c : Dev nD) (d : Fin 8), d ≠ 0 → ∑ p : Dev nD, recvHits p c d = 1 := by decide

theorem owed_bar (p c : Dev nD) : O₀ p (barCell c) () = barHits p c := by
  unfold O₀ owedSends owedSigs barHits
  rw [Pi.add_apply, Finsupp.add_apply, sum_tallies_apply, sum_tallies_apply]
  simp only [tally_eq, bar_eq_iff, one_mul, if_neg (fun h => recv_ne_bar (Eq.symm h)), mul_zero]
  exact Nat.zero_add _
theorem owed_recv (p c : Dev nD) (d : Fin 8) : O₀ p (recvCell c d) () = N * recvHits p c d := by
  unfold O₀ owedSends owedSigs recvHits
  rw [Pi.add_apply, Finsupp.add_apply, sum_tallies_apply, sum_tallies_apply, ← List.sum_map_mul_left]
  simp only [tally_eq, recv_eq_iff, if_neg recv_ne_bar, mul_zero]
  exact Nat.add_zero _

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun p _ => owed_bar p c, sum_barHits]
theorem launch_recv (c : Dev nD) (d : Fin 8) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun p _ => owed_recv p c d, ← Finset.mul_sum, sum_recvHits c d hd, mul_one]

theorem creds (c : Dev nD) :
    (Pipeline.launchCred O₀ c : sProp 𝕄) ⊢ iprop(cred (tallyAt (barCell c) () 7) ∗ bigSepL others fun d => cred (tallyAt (recvCell c d) () N)) := by
  unfold Pipeline.launchCred
  rw [bigSep_univ_at _ (SemLoc.reg barS), launch_bar]
  refine sep_mono_right ?_
  refine (BI.bigSep_subset (t := (others.map fun d => (SemLoc.dma (recvS d) : SemLoc sig)).toFinset) (fun x hx => ?_)).trans ?_
  · obtain ⟨d, -, rfl⟩ := List.mem_map.mp (List.mem_toFinset.mp hx)
    exact Finset.mem_erase.mpr ⟨fun h => (by cases h), Finset.mem_univ _⟩
  · rw [bigSep_eq_bigSepL_of_eq (others.map fun d => (SemLoc.dma (recvS d) : SemLoc sig)) rfl (by decide), bigSepL_map]
    exact bigSepL_mono fun d hd => Entails.of_eq (by rw [launch_recv c d (others_ne d hd)])

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start held G'
  iintro ⟨-, Hlev, Hcr, -, ⟨%K, HR, HL⟩⟩
  ihave Hc := (creds (F := F) c) $$ Hcr
  icases Hc with ⟨H1, HN⟩
  imodintro
  isplitl
  · iexists K
    isplitl [HR]; · iexact HR
    isplitl [HL]; · iexact HL
    isplitl [H1]; · iexact H1
    isplitl [HN] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ commPts
  iintro ⟨Hr, HzS, HzV, HzB⟩
  isplitl [HzB]; · iexact HzB
  isplitl [HzS HzV]
  · isplitl [HzS] <;> iassumption
  iexists (gathered m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of @main on the eight devices terminates, and every final
    state has each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Mesh

end
-- ==== Proof.KernelIdealRun.lean ====
/- The run read at the arrays: the result holds what the body leaves in its staging buffer, the operand what it held. -/
module

public import proofs.«01_k».proof.Proof.KernelIdealLaunch
public import Idealize.ShloMosaic.Lib.Pipeline.ValueKit.Geometry

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The one block of the operand is the whole of it. -/
theorem xstg_eq (c : Dev nD) : xstg m ρ c = m ((c.tc : Thread nD τ).loc main_arg0) :=
  funext fun i => congrArg (m ((c.tc : Thread nD τ).loc main_arg0)) (funext fun a => Fin.ext (Pipeline.Window.rect_emb_val_of_index_zero win0_0 (0 : Fin 1) a (by fin_cases a <;> decide +kernel) i))

/-- The one block of the result is the whole of it. -/
theorem finalA_out (c : Dev nD) : finalA m ρ c (1 : Fin 2) = outAt m ρ c := by
  funext i
  exact Pipeline.Dat.arrAt_emb_eq_after_last (dats m ρ 0 c) (1 : Fin 2) t0_0 (show win0_1.WholeAt (⟨0, by decide⟩ : Fin grid0.N) from by decide +kernel) i

/-- From any memory with zero counters: every execution ends with the result at `outAt` on every device, the operand as it was
    and every counter at zero. -/
theorem run : θ_run defs (onTc (τ := τ) (main (F := F))) ⟨m, fun _ => 0, ρ⟩ fun r => (∀ c : Dev nD,
    r.2.mem ((c.tc : Thread nD τ).loc main_v1) = outAt m ρ c ∧
    r.2.mem ((c.tc : Thread nD τ).loc main_arg0) = m ((c.tc : Thread nD τ).loc main_arg0)) ∧ r.2.sem = fun _ => 0 :=
  (θ_run defs _ _).mono
    (fun r h => ⟨fun c => ⟨(h.1 c (1 : Fin 2)).trans (finalA_out m ρ c), (h.1 c (0 : Fin 2)).trans (finalA_x m ρ c)⟩, h.2⟩)
    (run_main m ρ)

end Cert.KernelIdeal.Mesh

end
-- ==== Proof.ReferenceIdealRun.lean ====
/- The run of the reference: @main is a straight line of host operations, so it ends with every buffer at their composition over
   the argument. `out` is what the result holds: the column maxima over the column arg-maxima, as two rows. -/
module

public import proofs.«01_k».proof.Proof.Gen.ReferenceIdeal
public import Idealize.ShloMosaic.Lib.StableHlo.Run
public import Idealize.ShloMosaic.Lib.Quiescent

@[expose] public section

noncomputable section

namespace Cert.ReferenceIdeal.HostRun

open Idealize.ShloMosaic Idealize.ShloMosaic.TcCoe Idealize.SL.Sem Idealize.ShloMosaic.StableHlo
open Cert.ReferenceIdeal.Gen

variable {F : FTy → Type} [FloatOps F]

/-- The column maxima, as one row of f32. -/
def outVal (x : FVec F S16384x1024 .bf16) : FVec F S1x1024 .f32 :=
  broadcastInDim S1x1024 ![1] bcast_S1024_S1x1024_1
    (extf .f32 (Host.reduce FloatOps.maximumf x (constant S_ .bf16 0xFF80#16) reducesTo_S16384x1024_S1024_d0 h_S_) bitsLt_bf16_f32)
/-- The row number of each column's first maximum. -/
def outArg (x : FVec F S16384x1024 .bf16) : IVec S1024 32 := fun j =>
  (Host.argReduce reducer_argmax_bf16_i32 x (iotaInDim S16384x1024 32 0) (constant S_ .bf16 0xFF80#16) (constantI S_ 32 0#32)
    reducesTo_S16384x1024_S1024_d0 h_S_ j).2
/-- … as one row of f32. -/
def outIdx (x : FVec F S16384x1024 .bf16) : FVec F S1x1024 .f32 :=
  broadcastInDim S1x1024 ![1] bcast_S1024_S1x1024_1 (sitofp .f32 (outArg x))
/-- The result: the two rows. -/
def out (x : FVec F S16384x1024 .bf16) : FVec F S2x1024 .f32 :=
  concatenate S2x1024 0 [⟨S1x1024, outVal x⟩, ⟨S1x1024, outIdx x⟩] concatenates_S1x1024_S1x1024_S2x1024_d0

/-- The host operations of @main, the called function's in its place. -/
abbrev ops : List (HloOp τ sig (Elt F)) :=
  [ TRef.nullary main_call0.v0 (iotaInDim S16384x1024 32 0),
    TRef.nullary main_call0.cst (constant S_ .bf16 0xFF80#16),
    TRef.nullary main_call0.c (constantI S_ 32 0#32),
    TRef.quaternary (.of main_arg0) main_call0.v0 main_call0.cst main_call0.c main_call0.v1_0
      (fun x y u v j => (Host.argReduce reducer_argmax_bf16_i32 x y u v reducesTo_S16384x1024_S1024_d0 h_S_ j).1),
    TRef.quaternary (.of main_arg0) main_call0.v0 main_call0.cst main_call0.c main_call0.v1_1
      (fun x y u v j => (Host.argReduce reducer_argmax_bf16_i32 x y u v reducesTo_S16384x1024_S1024_d0 h_S_ j).2),
    unary main_v0 main_v1 (sitofp .f32 : (⟨S1024, .i32⟩ : BufTy).Contents (Elt F) → (⟨S1024, .f32⟩ : BufTy).Contents (Elt F)),
    nullary main_cst (constant S_ .bf16 0xFF80#16),
    binary main_arg0 main_cst main_v2 (fun x v => Host.reduce FloatOps.maximumf x v reducesTo_S16384x1024_S1024_d0 h_S_),
    unary main_v2 main_v3 (extf .f32 · bitsLt_bf16_f32),
    unary main_v3 main_v4 (broadcastInDim S1x1024 ![1] bcast_S1024_S1x1024_1),
    unary main_v1 main_v5 (broadcastInDim S1x1024 ![1] bcast_S1024_S1x1024_1),
    binary main_v4 main_v5 main_v6
      (fun a b => concatenate S2x1024 0 [⟨S1x1024, a⟩, ⟨S1x1024, b⟩] concatenates_S1x1024_S1x1024_S2x1024_d0) ]

theorem main_eq (c : Dev nD) : main (F := F) c = seq ops := by
  simp only [main, fn_argmax.body, seq, bind_assoc, pure_bind]
  rfl

theorem out_eq (V : Valuation τ sig (Elt F)) : after ops V (main_v6 : DevRef τ sig) = out (V (main_arg0 : DevRef τ sig)) := by
  after_results_simp
  refine congrArg₂ (fun a b : FVec F S1x1024 .f32 => concatenate S2x1024 0 [⟨S1x1024, a⟩, ⟨S1x1024, b⟩] concatenates_S1x1024_S1x1024_S2x1024_d0) ?_ ?_
  · after_results_simp; rfl
  · after_results_simp; rfl

theorem arg0_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., unary_bufs_sub .., binary_bufs_sub ..⟩

/-- Every execution of the reference ends with the result at `out` of the argument, the argument as it was and every semaphore
    counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v6) = out (m ((c.tc : Thread nD τ).loc main_arg0)) ∧
      r.2.mem ((c.tc : Thread nD τ).loc main_arg0) = m ((c.tc : Thread nD τ).loc main_arg0)) ∧ r.2.sem = fun _ => 0 :=
  (θ_run defs _ _).mono
    (fun r h => ⟨fun c => ⟨(h c main_v6).trans (out_eq _), (h c main_arg0).trans (arg0_eq _)⟩, sem_eq_zero_of_no_sems (by decide) r.2⟩)
    (run_seq scopedRefs_eq scopedSems_eq defs main (fun _ => ops) main_eq (fun _ => ops_sub) m ρ)

end Cert.ReferenceIdeal.HostRun

end
-- ==== Proof.KernelIdealValue.lean ====
/- What the kernel's payloads are over the extended reals, element by element. -/
module

public import proofs.«01_k».proof.Proof.KernelIdealMesh
public import proofs.«01_k».proof.Proof.KernelIdealSched
public import Idealize.ShloMosaic.Lib.Pointwise
public import Idealize.ShloMosaic.Lib.WordArith

@[expose] public section

set_option maxRecDepth 16384

noncomputable section

namespace Cert.KernelIdeal.Mesh

open Cert.KernelIdeal Cert.KernelIdeal.Gen
open Idealize.ShloMosaic

theorem neg_inf_f32 : Ideal.ofBits .f32 4286578688#32 = ⊥ := by simp [Ideal.ofBits, Ideal.ieee]
theorem neg_inf_bf16 : Ideal.ofBits .bf16 65408#16 = ⊥ := by simp [Ideal.ofBits, Ideal.ieee]
theorem pos_inf_f32 : Ideal.ofBits .f32 2139095040#32 = ⊤ := by simp [Ideal.ofBits, Ideal.ieee]
theorem lanes_f32 : Ideal.ofBits .f32 1124073472#32 = ((128 : ℝ) : EReal) := by
  have h : (8388608 : ℝ) * ((2 : ℝ) ^ 16)⁻¹ = 128 := by norm_num
  simp [Ideal.ofBits, Ideal.ieee]; exact_mod_cast h
theorem billion_f32 : Ideal.ofBits .f32 1315859240#32 = ((1000000000 : ℝ) : EReal) := by
  have h : (15625000 : ℝ) * 2 ^ 6 = 1000000000 := by norm_num
  simp [Ideal.ofBits, Ideal.ieee]; exact_mod_cast h

/-- A column's greatest entry. -/
def top (x : FVec Ideal S2048x1024 .bf16) (k : Fin 1024) : EReal := Finset.univ.fold max ⊥ fun r : Fin 2048 => x (ix2 r k)

theorem pay3_apply (x : FVec Ideal S2048x1024 .bf16) (k : Fin 1024) :
    k0_pay3 (F := Ideal) (k0_pay2 (F := Ideal) x) (ix2 0 k) = top x k := by
  pointwise [k0_pay3, k0_pay2]
  rw [neg_inf_bf16]; rfl
theorem sitofp_one : FloatOps.sitofp (F := Ideal) .f32 (BitVec.setWidth 32 (BitVec.ofBool true)) = 1 := by
  simp [FloatOps.sitofp]
theorem sitofp_zero : FloatOps.sitofp (F := Ideal) .f32 (BitVec.setWidth 32 (BitVec.ofBool false)) = 0 := by
  simp [FloatOps.sitofp]

theorem pay4_apply (x : FVec Ideal S2048x1024 .bf16) (r : Fin 2048) (k : Fin 1024) :
    k0_pay4 (F := Ideal) (k0_pay2 (F := Ideal) x) (ix2 r k) = if x (ix2 r k) = top x k then 1 else 0 := by
  pointwise [k0_pay4, k0_pay3, k0_pay2]
  rw [neg_inf_bf16]
  change FloatOps.sitofp (F := Ideal) .f32 (BitVec.setWidth 32 (BitVec.ofBool (decide (x (ix2 r k) = top x k)))) = _
  by_cases h : x (ix2 r k) = top x k
  · rw [if_pos h, decide_eq_true h]; exact sitofp_one
  · rw [if_neg h, decide_eq_false h]; exact sitofp_zero

/-- The two rows of the index weights: a row number over 128, and its remainder. -/
theorem weight (a : Fin 2) (r : Fin 2048) :
    select k0_pay5 k0_pay6 (select (andi (xori k0_pay9 k0_pay10) k0_pay8) (addi k0_pay7 (broadcast S2x2048
      (Scalar.select (Scalar.cmpi .eq 128#32 0#32) 1#32 128#32))) k0_pay7) (ix2 a r)
      = BitVec.ofNat 32 (if a = 0 then r.val / 128 else r.val % 128) := by
  pointwise [k0_pay5, k0_pay6, k0_pay7, k0_pay8, k0_pay9, k0_pay10]
  revert a r
  decide +kernel

theorem sitofp_nat (φ : FTy) {n : Nat} (h : n < 2 ^ 31) : FloatOps.sitofp (F := Ideal) φ (BitVec.ofNat 32 n) = ((n : ℝ) : EReal) := by
  show (((BitVec.ofNat 32 n).toInt : ℝ) : EReal) = _
  rw [WordArith.toInt_ofNat_small n h]
  simp

/-- A sum that an indicator cuts down to one term. -/
theorem sum_pick (f : Fin 2048 → EReal) (p : Fin 2048 → Prop) [DecidablePred p] {r0 : Fin 2048} (h : ∀ r, p r ↔ r = r0) :
    (∑ r, f r * if p r then 1 else 0) = f r0 := by
  rw [Finset.sum_eq_single r0 (fun r _ hr => by rw [if_neg (mt (h r).mp hr), mul_zero]) (fun hr => absurd (Finset.mem_univ _) hr),
    if_pos ((h r0).mpr rfl), mul_one]

theorem base_word (c : Dev nD) : (Scalar.muli (Scalar.remsi (Scalar.divsi (Dev.word c) 1#32) 8#32) 2048#32).toInt = ((2048 * c.val : Nat) : Int) := by
  revert c; decide +kernel

/-- A device's pair, first row: the column's maximum. -/
theorem pair_val (c : Dev nD) (x : FVec Ideal S2048x1024 .bf16) (k : Fin 1024) : pairOf (F := Ideal) c x (ix3 0 0 k) = top x k := by
  rw [← pay3_apply]
  unfold pairOf
  generalize k0_pay3 (F := Ideal) (k0_pay2 (F := Ideal) x) = v
  pointwise [k0_pay11]

theorem pay11_idx (v2 v98 v103 v107 v131 v133 v135 v137 v139 v142) (k : Fin 1024) :
    k0_pay11 (F := Ideal) v2 v98 v103 v107 v131 v133 v135 v137 v139 v142 (ix3 0 1 k) =
      (∑ r : Fin 2048, FloatOps.sitofp .bf16 (select v107 v131 (select (andi (xori v139 v142) v137) (addi v135 (broadcast S2x2048 v133)) v135) (ix2 0 r)) * v103 (ix2 r k)) * Ideal.ofBits .f32 1124073472#32
      + (∑ r : Fin 2048, FloatOps.sitofp .bf16 (select v107 v131 (select (andi (xori v139 v142) v137) (addi v135 (broadcast S2x2048 v133)) v135) (ix2 1 r)) * v103 (ix2 r k))
      + (((Scalar.muli v2 2048#32).toInt : ℝ) : EReal) := by
  pointwise [k0_pay11]

/-- Second row: the row number of the column's one maximum, counted over all devices' rows. -/
theorem pair_idx (c : Dev nD) (x : FVec Ideal S2048x1024 .bf16) (k : Fin 1024) {r0 : Fin 2048} (h : ∀ r, x (ix2 r k) = top x k ↔ r = r0) :
    pairOf (F := Ideal) c x (ix3 0 1 k) = (((2048 * c.val + r0.val : Nat) : ℝ) : EReal) := by
  unfold pairOf
  rw [pay11_idx]
  rw [Finset.sum_congr rfl fun r _ => congrArg₂ (· * ·) (congrArg _ (weight 0 r)) (pay4_apply x r k),
    Finset.sum_congr rfl fun r _ => congrArg₂ (· * ·) (congrArg _ (weight 1 r)) (pay4_apply x r k)]
  rw [sum_pick _ _ h, sum_pick _ _ h, if_pos rfl, if_neg (by decide), base_word, lanes_f32,
    sitofp_nat _ (by have := r0.isLt; omega), sitofp_nat _ (by have := r0.isLt; omega), ← EReal.coe_mul, ← EReal.coe_add, ← EReal.coe_add]
  refine congrArg Real.toEReal ?_
  have e := Nat.div_add_mod r0.val 128
  have e' : (128 : ℝ) * ((r0.val / 128 : Nat) : ℝ) + ((r0.val % 128 : Nat) : ℝ) = (r0.val : ℝ) := by exact_mod_cast e
  rw [Int.cast_natCast, Nat.cast_add, ← e']
  ring

/-- The combination's first row: the greatest of the slots' values. -/
theorem best_apply (v w : FVec Ideal S8x1x1024 .f32) (k : Fin 1024) :
    k0_pay1 (F := Ideal) v w (ix2 0 k) = Finset.univ.fold max ⊥ fun d : Fin 8 => v (ix3 d 0 k) := by
  rw [← neg_inf_f32]
  pointwise [k0_pay1]

/-- Second row: the least index among the slots that hold the greatest value. -/
theorem least_apply (v w : FVec Ideal S8x1x1024 .f32) (k : Fin 1024) :
    k0_pay1 (F := Ideal) v w (ix2 1 k) = Finset.univ.fold min ⊤ fun d : Fin 8 =>
      if v (ix3 d 0 k) = (Finset.univ.fold max ⊥ fun d : Fin 8 => v (ix3 d 0 k)) then w (ix3 d 0 k) else ((1000000000 : ℝ) : EReal) := by
  rw [← neg_inf_f32, ← pos_inf_f32, ← billion_f32]
  pointwise [k0_pay1]

variable (m : (ℓ : Loc nD τ sig) → Buf (Elt Ideal) ℓ) (ρ : Dev nD → PrngReg)

theorem read_val (c : Dev nD) (d : Fin 8) (k : Fin 1024) :
    cM.view.readAt (Elt Ideal) valR.toLoadRect (gathered m ρ c) (ix3 d 0 k) = pair m ρ (c - d) (ix3 0 0 k) := by
  rw [← gathered_emb]
  refine congrArg (gathered m ρ c) (funext fun a => Fin.ext ?_)
  match a with
  | 0 => exact (Nat.zero_add _).trans (Nat.one_mul _)
  | 1 => rfl
  | 2 => rfl

theorem read_idx (c : Dev nD) (d : Fin 8) (k : Fin 1024) :
    cM.view.readAt (Elt Ideal) idxR.toLoadRect (gathered m ρ c) (ix3 d 0 k) = pair m ρ (c - d) (ix3 0 1 k) := by
  rw [← gathered_emb]
  refine congrArg (gathered m ρ c) (funext fun a => Fin.ext ?_)
  match a with
  | 0 => exact (Nat.zero_add _).trans (Nat.one_mul _)
  | 1 => rfl
  | 2 => rfl

end Cert.KernelIdeal.Mesh

end
-- ==== Proof.ReferenceIdealValue.lean ====
/- What the reference's result is over the extended reals: at each column the greatest entry and the row number of its first
   occurrence. -/
module

public import proofs.«01_k».proof.Proof.ReferenceIdealRun
public import Idealize.ShloMosaic.Lib.Pointwise
public import Idealize.ShloMosaic.Lib.WordArith

@[expose] public section

set_option maxRecDepth 16384

noncomputable section

namespace Cert.ReferenceIdeal.HostRun

open Cert.ReferenceIdeal Cert.ReferenceIdeal.Gen
open Idealize.ShloMosaic

/-- Row `n` holds the first of column `k`'s greatest entries. -/
structure IsFirst (y : FVec Ideal S16384x1024 .bf16) (k : Fin 1024) (n : Fin 16384) : Prop where
  greatest : ∀ n', y (ix2 n' k) ≤ y (ix2 n k)
  first : ∀ n', y (ix2 n' k) = y (ix2 n k) → n ≤ n'

theorem two_rows_zero (a b : FVec Ideal S1x1024 .f32) (k : Fin 1024) :
    concatenate S2x1024 0 [⟨S1x1024, a⟩, ⟨S1x1024, b⟩] concatenates_S1x1024_S1x1024_S2x1024_d0 (ix2 0 k) = a (ix2 0 k) := by
  pointwise []

theorem two_rows_one (a b : FVec Ideal S1x1024 .f32) (k : Fin 1024) :
    concatenate S2x1024 0 [⟨S1x1024, a⟩, ⟨S1x1024, b⟩] concatenates_S1x1024_S1x1024_S2x1024_d0 (ix2 1 k) = b (ix2 0 k) := by
  pointwise []

theorem row_apply (a : FVec Ideal S1024 .f32) (k : Fin 1024) :
    broadcastInDim S1x1024 ![1] bcast_S1024_S1x1024_1 a (ix2 0 k) = a (ix1 k) := by
  pointwise []

theorem max_apply (y : FVec Ideal S16384x1024 .bf16) (k : Fin 1024) :
    Host.reduce FloatOps.maximumf y (constant S_ .bf16 0xFF80#16) reducesTo_S16384x1024_S1024_d0 h_S_ (ix1 k)
      = Finset.univ.fold max ⊥ fun n : Fin 16384 => y (ix2 n k) := by
  have e : Ideal.ofBits .bf16 65408#16 = ⊥ := by simp [Ideal.ofBits, Ideal.ieee]
  rw [← e]
  pointwise []

/-- A pair is at least as good as another: a greater value, or the same value at no later a row. -/
def Beats (p q : EReal × BitVec 32) : Prop := q.1 < p.1 ∨ q.1 = p.1 ∧ p.2.toInt ≤ q.2.toInt

theorem Beats.refl (p : EReal × BitVec 32) : Beats p p := .inr ⟨rfl, le_rfl⟩
theorem Beats.trans {p q r : EReal × BitVec 32} (h : Beats p q) (h' : Beats q r) : Beats p r := by
  rcases h with h | ⟨h, g⟩ <;> rcases h' with h' | ⟨h', g'⟩
  · exact .inl (h'.trans h)
  · exact .inl (h'.symm ▸ h)
  · exact .inl (h ▸ h')
  · exact .inr ⟨h'.trans h, g.trans g'⟩

/-- The reducer takes the better of its two pairs. -/
theorem reducer_cases (a b : EReal × BitVec 32) :
    (reducer_argmax_bf16_i32 (F := Ideal) a b = a ∧ Beats a b) ∨ (reducer_argmax_bf16_i32 (F := Ideal) a b = b ∧ Beats b a) := by
  obtain ⟨a, i⟩ := a
  obtain ⟨b, j⟩ := b
  simp only [reducer_argmax_bf16_i32, Ideal.cmpf_def, Ideal.cmp, IntOp.ori, IntOp.andi, IntOp.cmpi, Scalar.select, Beats]
  rcases lt_trichotomy a b with h | h | h
  · right
    simp [h, h.ne, h.not_gt]
  · subst h
    by_cases g : i.toInt < j.toInt
    · left; simp [BitVec.slt, g, g.le]
    · right; simp [BitVec.slt, g, not_lt.mp g]
  · left
    simp [h, h.ne']

theorem fold_best (l : List (EReal × BitVec 32)) (p : EReal × BitVec 32) :
    (l.foldl (reducer_argmax_bf16_i32 (F := Ideal)) p = p ∨ l.foldl (reducer_argmax_bf16_i32 (F := Ideal)) p ∈ l) ∧
      Beats (l.foldl (reducer_argmax_bf16_i32 (F := Ideal)) p) p ∧ ∀ q ∈ l, Beats (l.foldl (reducer_argmax_bf16_i32 (F := Ideal)) p) q := by
  induction l generalizing p with
  | nil => exact ⟨.inl rfl, .refl p, fun q h => absurd h List.not_mem_nil⟩
  | cons a l ih =>
    obtain ⟨h1, h2, h3⟩ := ih (reducer_argmax_bf16_i32 (F := Ideal) p a)
    rw [List.foldl_cons]
    rcases reducer_cases p a with ⟨e, b⟩ | ⟨e, b⟩ <;> rw [e] at h1 h2 h3 ⊢
    · exact ⟨h1.imp_right fun h => List.mem_cons_of_mem _ h, h2, fun q h => (List.mem_cons.mp h).elim (fun h => h ▸ h2.trans b) (h3 q)⟩
    · exact ⟨.inr (h1.elim (fun h => by rw [h]; exact List.mem_cons_self) fun h => List.mem_cons_of_mem _ h), h2.trans b,
        fun q h => (List.mem_cons.mp h).elim (fun h => h ▸ h2) (h3 q)⟩

theorem drop_eq (i : S16384x1024.Idx) (k : Fin 1024) :
    reducesTo_S16384x1024_S1024_d0.drop i = ix1 k ↔ ∃ n : Fin 16384, i = ix2 n k :=
  (Shape.ReducesTo.fiber_r2_a0 (n0 := 16384) (n1 := 1024) reducesTo_S16384x1024_S1024_d0 (ix1 k) i).trans
    ⟨fun ⟨n, e⟩ => ⟨n, e.symm⟩, fun ⟨n, e⟩ => ⟨n, e.symm⟩⟩

theorem mem_fiber (y : FVec Ideal S16384x1024 .bf16) (k : Fin 1024) (q : EReal × BitVec 32) :
    q ∈ Host.argReduceFiber y (iotaInDim S16384x1024 32 0) reducesTo_S16384x1024_S1024_d0 (ix1 k)
      ↔ ∃ n : Fin 16384, q = (y (ix2 n k), BitVec.ofNat 32 n.val) := by
  simp only [Host.argReduceFiber, List.mem_map, List.mem_filter, List.mem_finRange, true_and, decide_eq_true_eq, drop_eq]
  constructor
  · rintro ⟨i, ⟨n, e⟩, rfl⟩
    exact ⟨n, by rw [e]; rfl⟩
  · rintro ⟨n, rfl⟩
    exact ⟨S16384x1024.rowMajor (ix2 n k), ⟨n, Equiv.symm_apply_apply ..⟩, by rw [Equiv.symm_apply_apply]; rfl⟩

/-- The reducer's fold over a column's pairs, in whatever order, ends at the column's first greatest entry. -/
theorem fold_first (y : FVec Ideal S16384x1024 .bf16) (k : Fin 1024) (l : List (EReal × BitVec 32)) (p0 : EReal × BitVec 32)
    (h0 : p0 = (⊥, 0#32)) (hl : ∀ q, q ∈ l ↔ ∃ n : Fin 16384, q = (y (ix2 n k), BitVec.ofNat 32 n.val)) :
    ∃ n, IsFirst y k n ∧ (l.foldl (reducer_argmax_bf16_i32 (F := Ideal)) p0).2 = BitVec.ofNat 32 n.val := by
  obtain ⟨h1, -, h3⟩ := fold_best l p0
  generalize l.foldl (reducer_argmax_bf16_i32 (F := Ideal)) p0 = p at h1 h3 ⊢
  have hp : ∃ n : Fin 16384, p = (y (ix2 n k), BitVec.ofNat 32 n.val) := by
    rcases h1 with h | h
    · have h2 := h3 _ ((hl _).mpr ⟨0, rfl⟩)
      rw [h, h0] at h2 ⊢
      rcases h2 with h2 | ⟨h2, -⟩
      · exact absurd h2 not_lt_bot
      · exact ⟨0, Prod.ext h2.symm rfl⟩
    · exact (hl p).mp h
  obtain ⟨n, rfl⟩ := hp
  have hb (n' : Fin 16384) : Beats (y (ix2 n k), BitVec.ofNat 32 n.val) (y (ix2 n' k), BitVec.ofNat 32 n'.val) := h3 _ ((hl _).mpr ⟨n', rfl⟩)
  refine ⟨n, ⟨fun n' => (hb n').elim le_of_lt fun h => h.1.le, fun n' h => ?_⟩, rfl⟩
  rcases hb n' with g | ⟨-, g⟩
  · exact absurd h g.ne
  · have := n.isLt; have := n'.isLt
    simp only [WordArith.toInt_ofNat_small n.val (by omega), WordArith.toInt_ofNat_small n'.val (by omega)] at g
    exact_mod_cast g

/-- An arg-max, as a function of the column, is the reducer's fold over the column's pairs. -/
theorem arg_fiber {s t u : Shape} {axes : List (Fin s.rank)} (f : EReal × BitVec 32 → EReal × BitVec 32 → EReal × BitVec 32)
    (x : FVec Ideal s .bf16) (y : IVec s 32) (ix : FVec Ideal u .bf16) (iy : IVec u 32) (h : s.ReducesTo axes t) (hu : 0 < u.numel) :
    (fun j => (Host.argReduce (F := Ideal) (φ := .bf16) f x y ix iy h hu j).2)
      = fun j => ((Host.argReduceFiber x y h j).foldl f (ix (Shape.Idx.first hu), iy (Shape.Idx.first hu))).2 := by
  funext j
  rw [Ideal.argReduce_eq_reduce2, Host.reduce2_eq_foldl_fiber]

theorem outArg_eq (y : FVec Ideal S16384x1024 .bf16) : outArg (F := Ideal) y = fun j =>
    ((Host.argReduceFiber y (iotaInDim S16384x1024 32 0) reducesTo_S16384x1024_S1024_d0 j).foldl (reducer_argmax_bf16_i32 (F := Ideal))
      (constant (F := Ideal) S_ .bf16 0xFF80#16 (Shape.Idx.first h_S_), constantI S_ 32 0#32 (Shape.Idx.first h_S_))).2 :=
  arg_fiber _ _ _ _ _ _ _

theorem init_pair (i : S_.Idx) : (constant (F := Ideal) S_ .bf16 0xFF80#16 i, constantI S_ 32 0#32 i) = ((⊥ : EReal), 0#32) := by
  have e : Ideal.ofBits .bf16 65408#16 = ⊥ := by simp [Ideal.ofBits, Ideal.ieee]
  exact congrArg (·, 0#32) e

theorem arg_apply (y : FVec Ideal S16384x1024 .bf16) (k : Fin 1024) :
    ∃ n, IsFirst y k n ∧ outArg (F := Ideal) y (ix1 k) = BitVec.ofNat 32 n.val := by
  rw [outArg_eq]
  exact fold_first y k _ _ (init_pair _) (mem_fiber y k)

theorem ext_apply (a : FVec Ideal S1024 .bf16) (k : Fin 1024) : extf .f32 a bitsLt_bf16_f32 (ix1 k) = a (ix1 k) := rfl

/-- The reference's result at a column. -/
theorem out_apply (y : FVec Ideal S16384x1024 .bf16) (k : Fin 1024) :
    ∃ n, IsFirst y k n ∧ out (F := Ideal) y (ix2 0 k) = y (ix2 n k) ∧ out (F := Ideal) y (ix2 1 k) = ((n.val : ℝ) : EReal) := by
  obtain ⟨n, h, e⟩ := arg_apply y k
  refine ⟨n, h, ?_, ?_⟩
  · unfold out outVal
    rw [two_rows_zero, row_apply, ext_apply, max_apply]
    refine (le_antisymm (Finset.fold_max_le _ |>.mpr ⟨bot_le, fun n' _ => h.greatest n'⟩) ?_)
    exact Finset.le_fold_max _ |>.mpr (.inr ⟨n, Finset.mem_univ _, le_rfl⟩)
  · unfold out outIdx
    rw [two_rows_one, row_apply]
    show (((outArg (F := Ideal) y (ix1 k)).toInt : ℝ) : EReal) = _
    rw [e, WordArith.toInt_ofNat_small n.val (by have := n.isLt; omega)]
    simp

end Cert.ReferenceIdeal.HostRun

end
-- ==== Proof.Value.lean ====
/- The two programs' results are one: every device's combination of the eight pairs is the whole array's column maxima and the row
   numbers of their first occurrences, when no device's column holds its maximum twice. -/
module

public import proofs.«01_k».proof.Defs
public import proofs.«01_k».proof.Proof.Gen.Pre_one_maximum_KernelIdeal
public import proofs.«01_k».proof.Proof.KernelIdealValue
public import proofs.«01_k».proof.Proof.KernelIdealRun
public import proofs.«01_k».proof.Proof.ReferenceIdealValue
public import Idealize.ShloMosaic.Lib.LayoutAt

@[expose] public section

set_option maxRecDepth 16384

noncomputable section

namespace Cert.KernelIdeal.Mesh

open Cert.KernelIdeal Cert.KernelIdeal.Gen
open Idealize.ShloMosaic
open Cert.ReferenceIdeal.HostRun (IsFirst)

/-! ## The precondition -/

theorem flag_value (b : Bool) : FloatOps.uitofp (F := Ideal) .f32 (BitVec.ofBool b) = if b then 1 else 0 := by
  cases b <;> simp [FloatOps.uitofp]

/-- A column whose maxima count one has one maximum. -/
theorem one_of_pre (x : FVec Ideal S2048x1024 .bf16) (k : Fin 1024)
    (h : Cert.Pre_one_maximum_KernelIdeal.fn (F := Ideal) x (ix1 k) = 1#1) : ∃ r0, ∀ r, x (ix2 r k) = top x k ↔ r = r0 := by
  pointwise [Cert.Pre_one_maximum_KernelIdeal.fn] at h
  have ht : (Finset.univ.fold max ⊥ fun r : Fin 2048 => x (ix2 r k)) = top x k := rfl
  rw [neg_inf_bf16, ht] at h
  have h' : (∑ r : Fin 2048, if x (ix2 r k) = top x k then (1 : EReal) else 0) = 1 := by
    have h1 := of_decide_eq_true (show decide _ = true from BitVec.ofBool_eq_iff_eq.mp h)
    refine Eq.trans ?_ h1
    refine Finset.sum_congr rfl fun r _ => ?_
    rw [flag_value]
    exact (if_congr decide_eq_true_iff rfl rfl).symm
  rw [Finset.sum_boole] at h'
  have hc : (Finset.univ.filter fun r : Fin 2048 => x (ix2 r k) = top x k).card = 1 := by exact_mod_cast h'
  obtain ⟨r0, hr⟩ := Finset.card_eq_one.mp hc
  exact ⟨r0, fun r => by
    have h2 := Finset.ext_iff.mp hr r
    rwa [Finset.mem_filter, Finset.mem_singleton, and_iff_right (Finset.mem_univ _)] at h2⟩

/-! ## The combination -/

theorem le_top (x : FVec Ideal S2048x1024 .bf16) (k : Fin 1024) (r : Fin 2048) : x (ix2 r k) ≤ top x k :=
  Finset.le_fold_max _ |>.mpr (.inr ⟨r, Finset.mem_univ _, le_rfl⟩)

/-- A row of a device's block, counted over all devices' rows. -/
def row (c : Dev nD) (r : Fin 2048) : Fin 16384 := ⟨2048 * c.val + r.val, by have : c.val < 8 := c.isLt; have := r.isLt; omega⟩

theorem row_surj (n : Fin 16384) : ∃ c r, n = row c r :=
  ⟨(⟨n.val / 2048, by have := n.isLt; omega⟩ : Fin 8), ⟨n.val % 2048, by omega⟩, Fin.ext (Nat.div_add_mod _ _).symm⟩

theorem slot_of (c c' : Dev nD) : c - (c - c' : Fin 8) = c' := by revert c c'; decide

section
variable {y : FVec Ideal Cert.ReferenceIdeal.S16384x1024 .bf16} {k : Fin 1024} {n : Fin 16384} (hn : IsFirst y k n)
  {x : Dev nD → FVec Ideal S2048x1024 .bf16} (hx : ∀ c r, x c (ix2 r k) = y (ix2 (row c r) k))
  {pos : Dev nD → Fin 2048} (hp : ∀ c r, x c (ix2 r k) = top (x c) k ↔ r = pos c)
include hn hx hp

/-- The greatest of the devices' maxima is the whole column's. -/
theorem best_eq (c : Dev nD) : (Finset.univ.fold max ⊥ fun d : Fin 8 => top (x (c - d)) k) = y (ix2 n k) := by
  refine le_antisymm (Finset.fold_max_le _ |>.mpr ⟨bot_le, fun d _ => ?_⟩) ?_
  · rw [← (hp (c - d) _).mpr rfl, hx]
    exact hn.greatest _
  · obtain ⟨c', r, rfl⟩ := row_surj n
    refine Finset.le_fold_max _ |>.mpr (.inr ⟨c - c', Finset.mem_univ _, ?_⟩)
    rw [slot_of, ← hx]
    exact le_top _ _ _

/-- The least of the row numbers of the devices that hold it is the first row that does. -/
theorem least_eq (c : Dev nD) : (Finset.univ.fold min ⊤ fun d : Fin 8 =>
    if top (x (c - d)) k = y (ix2 n k) then (((2048 * (c - d).val + (pos (c - d)).val : Nat) : ℝ) : EReal) else ((1000000000 : ℝ) : EReal))
      = ((n.val : ℝ) : EReal) := by
  refine le_antisymm ?_ (Finset.le_fold_min _ |>.mpr ⟨_root_.le_top, fun d _ => ?_⟩)
  · obtain ⟨c', r, e⟩ := row_surj n
    refine Finset.fold_min_le _ |>.mpr (.inr ⟨c - c', Finset.mem_univ _, ?_⟩)
    rw [slot_of]
    have ht : top (x c') k = y (ix2 n k) := by
      refine le_antisymm ?_ ?_
      · rw [← (hp c' _).mpr rfl, hx]; exact hn.greatest _
      · rw [e, ← hx]; exact le_top _ _ _
    rw [if_pos ht, ← (hp c' r).mp (by rw [ht, e, hx]), e]
    exact le_rfl
  · split_ifs with h
    · have := hn.first (row (c - d) (pos (c - d))) (by rw [← hx, (hp _ _).mpr rfl, h])
      exact EReal.coe_le_coe_iff.mpr (Nat.cast_le.mpr this)
    · refine EReal.coe_le_coe_iff.mpr ?_
      have : (n.val : ℝ) ≤ (16384 : ℕ) := Nat.cast_le.mpr n.isLt.le
      refine this.trans ?_
      norm_num

end

/-! ## The two results -/

variable (m : (ℓ : Loc nD τ sig) → Buf (Elt Ideal) ℓ) (ρ : Dev nD → PrngReg)

/-- A device's block at an element. -/
theorem block_row (y : FVec Ideal Cert.ReferenceIdeal.S16384x1024 .bf16) (c : Dev nD) (r : Fin 2048) (k : Fin 1024) :
    Layout.block (α := EReal) ⟨2, ![2048, 1024]⟩ ⟨2, ![16384, 1024]⟩ 0 8 c y (by decide) (ix2 r k) = y (ix2 (row c r) k) := by
  rw [Layout.block_apply]
  refine congrArg y (funext fun a => Fin.ext ?_)
  match a with
  | 0 => exact congrArg (· + r.val) (Nat.mul_comm c.val 2048)
  | 1 => rfl

theorem out_eq (y : FVec Ideal Cert.ReferenceIdeal.S16384x1024 .bf16)
    (hpre : ∀ c : Dev nD, Cert.Pre_one_maximum_KernelIdeal.fn (F := Ideal) (xstg m ρ c) = fun _ => 1#1)
    (hy : ∀ c : Dev nD, xstg m ρ c = Layout.block (α := EReal) ⟨2, ![2048, 1024]⟩ ⟨2, ![16384, 1024]⟩ 0 8 c y (by decide)) (c : Dev nD) :
    outAt m ρ c = Cert.ReferenceIdeal.HostRun.out (F := Ideal) y := by
  funext j
  idx_vars j
  obtain ⟨n, hn, e0, e1⟩ := Cert.ReferenceIdeal.HostRun.out_apply y j1
  have hx (c : Dev nD) (r : Fin 2048) : xstg m ρ c (ix2 r j1) = y (ix2 (row c r) j1) := by rw [hy]; exact block_row y c r j1
  choose pos hp using fun c => one_of_pre (xstg m ρ c) j1 (congrFun (hpre c) (ix1 j1))
  have hv (d : Fin 8) := (read_val m ρ c d j1).trans (pair_val (c - d) (xstg m ρ (c - d)) j1)
  have hw (d : Fin 8) := (read_idx m ρ c d j1).trans (pair_idx (c - d) (xstg m ρ (c - d)) j1 (hp (c - d)))
  unfold outAt
  match j0 with
  | 0 =>
    refine (best_apply _ _ j1).trans ?_
    simp only [hv]
    exact (best_eq hn hx hp c).trans e0.symm
  | 1 =>
    refine (least_apply _ _ j1).trans ?_
    simp only [hv, hw]
    rw [best_eq hn hx hp c]
    exact (least_eq hn hx hp c).trans e1.symm

end Cert.KernelIdeal.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_maximum_KernelIdeal
public import proofs.«01_k».proof.Proof.Gen.Pre_one_maximum_ReferenceIdeal
public import proofs.«01_k».proof.Proof.KernelRun
public import proofs.«01_k».proof.Proof.KernelIdealRun
public import proofs.«01_k».proof.Proof.ReferenceIdealRun
public import proofs.«01_k».proof.Proof.Value

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.Kernel.Mesh.run (F := Bits) m g)

theorem frame_ideal : Cert.quiescent_KernelIdeal := fun m g _ =>
  (θ_run Cert.KernelIdeal.defs _ _).mono (fun _ h => ⟨fun c => (h.1 c).2, h.2⟩) (Cert.KernelIdeal.Mesh.run (F := Ideal) m g)

theorem frame_reference : Cert.quiescent_ReferenceIdeal := fun m g _ =>
  (θ_run Cert.ReferenceIdeal.defs _ _).mono (fun _ h => ⟨fun c => (h.1 c).2, h.2⟩) (Cert.ReferenceIdeal.HostRun.run (F := Ideal) m g)

theorem value : Cert.algebraic_KernelIdeal_ReferenceIdeal_pre_one_maximum_KernelIdeal := fun m g m' g' hpre hm =>
  ⟨Cert.ReferenceIdeal.HostRun.out (F := Ideal) (m' (((0 : Dev Cert.ReferenceIdeal.nD).tc :
      Thread Cert.ReferenceIdeal.nD Cert.ReferenceIdeal.τ).loc Cert.ReferenceIdeal.main_arg0)),
    (θ_run Cert.KernelIdeal.defs _ _).mono
      (fun _ h c => ⟨(h.1 c).1.trans (Cert.KernelIdeal.Mesh.out_eq m g _
        (fun c => (congrArg _ (Cert.KernelIdeal.Mesh.xstg_eq m g c)).trans (hpre c))
        (fun c => (Cert.KernelIdeal.Mesh.xstg_eq m g c).trans (hm c)) c), (h.1 c).2⟩)
      (Cert.KernelIdeal.Mesh.run (F := Ideal) m g),
    (θ_run Cert.ReferenceIdeal.defs _ _).mono (fun _ h => h.1 0) (Cert.ReferenceIdeal.HostRun.run (F := Ideal) m' g')⟩

theorem claim : Cert.Claim :=
  ⟨Cert.Kernel.Gen.facts, Cert.KernelIdeal.Gen.facts, Cert.ReferenceIdeal.Gen.facts, Cert.Pre_one_maximum_KernelIdeal.Gen.facts,
    Cert.Pre_one_maximum_ReferenceIdeal.Gen.facts, frame_kernel, frame_ideal, fun m g _ => frame_ideal m g trivial, frame_reference,
    fun m g _ => frame_reference m g trivial, trivial, value⟩

end Cert.Proof

end
